-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Conv (m : (ℓ : Loc Cert.Conv.nD Cert.Conv.τ Cert.Conv.sig) → Buf (Elt Bits) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)) (v2 : (c : Dev Cert.UpIdeal.nD) → Buf (Elt Ideal) ((c.tc : Thread Cert.UpIdeal.nD Cert.UpIdeal.τ).loc Cert.UpIdeal.main_v2_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_v2_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2_0) = v0 c
          ∧ r.2.mem ((c.tc : Thread Cert.UpRefIdeal.nD Cert.UpRefIdeal.τ).loc Cert.UpRefIdeal.main_v2_1) = v1 c
          ∧ r.2.mem ((c.tc : Thread Cert.UpRefIdeal.nD Cert.UpRefIdeal.τ).loc Cert.UpRefIdeal.main_v2_2) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def Claim : Prop :=
  ∃ (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hConv : Cert.Conv.Facts),
    quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Conv (hConv := hConv)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
-- ==== Down.lean ====
abbrev S4096x12288 : Shape := ⟨2, ![4096, 12288]⟩
abbrev S12288x3072 : Shape := ⟨2, ![12288, 3072]⟩
abbrev S3072 : Shape := ⟨1, ![3072]⟩
abbrev S4096x3072 : Shape := ⟨2, ![4096, 3072]⟩
abbrev S1x3072 : Shape := ⟨2, ![1, 3072]⟩
abbrev S512x12288 : Shape := ⟨2, ![512, 12288]⟩
abbrev S12288x512 : Shape := ⟨2, ![12288, 512]⟩
abbrev S1x512 : Shape := ⟨2, ![1, 512]⟩
abbrev S512x512 : Shape := ⟨2, ![512, 512]⟩

abbrev nBuf : Space → Nat
  | .hbm => 10
  | .vmem => 14
  | .smem => 0
  | _ => 0

abbrev bufTy : (tb : Table) → Fin (tcTables nBuf tb) → BufTy
  | .hbm, ⟨0, _⟩ => ⟨S4096x12288, .bf16⟩
  | .hbm, ⟨1, _⟩ => ⟨S12288x3072, .fp8e4m3⟩
  | .hbm, ⟨2, _⟩ => ⟨S3072, .f32⟩
  | .hbm, ⟨3, _⟩ => ⟨S3072, .f32⟩
  | .hbm, ⟨4, _⟩ => ⟨S3072, .f32⟩
  | .hbm, ⟨5, _⟩ => ⟨S4096x3072, .bf16⟩
  | .hbm, ⟨6, _⟩ => ⟨S1x3072, .f32⟩
  | .hbm, ⟨7, _⟩ => ⟨S1x3072, .f32⟩
  | .hbm, ⟨8, _⟩ => ⟨S1x3072, .f32⟩
  | .hbm, ⟨9, _⟩ => ⟨S4096x3072, .bf16⟩
  | .local _ .vmem, ⟨0, _⟩ => ⟨S512x12288, .bf16⟩
  | .local _ .vmem, ⟨1, _⟩ => ⟨S512x12288, .bf16⟩
  | .local _ .vmem, ⟨2, _⟩ => ⟨S12288x512, .fp8e4m3⟩
  | .local _ .vmem, ⟨3, _⟩ => ⟨S12288x512, .fp8e4m3⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12288x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRefIdeal.lean ====
abbrev S4096x12288 : Shape := ⟨2, ![4096, 12288]⟩
abbrev S12288x3072 : Shape := ⟨2, ![12288, 3072]⟩
abbrev S3072 : Shape := ⟨1, ![3072]⟩
abbrev S4096x3072 : Shape := ⟨2, ![4096, 3072]⟩
abbrev S1x3072 : Shape := ⟨2, ![1, 3072]⟩

abbrev nBuf : Space → Nat
  | .hbm => 10
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S12288x3072, .fp8e4m3⟩
  | .hbm, ⟨2, _⟩ => ⟨S3072, .f32⟩
  | .hbm, ⟨3, _⟩ => ⟨S3072, .f32⟩
  | .hbm, ⟨4, _⟩ => ⟨S3072, .f32⟩
  | .hbm, ⟨5, _⟩ => ⟨S4096x3072, .bf16⟩
  | .hbm, ⟨6, _⟩ => ⟨S1x3072, .f32⟩
  | .hbm, ⟨7, _⟩ => ⟨S1x3072, .f32⟩
  | .hbm, ⟨8, _⟩ => ⟨S1x3072, .f32⟩
  | .hbm, ⟨9, _⟩ => ⟨S4096x3072, .bf16⟩
  | .local _ .vmem, ⟨0, _⟩ => ⟨S4096x12288, .bf16⟩
  | .local _ .vmem, ⟨1, _⟩ => ⟨S12288x3072, .fp8e4m3⟩
  | .local _ .vmem, ⟨2, _⟩ => ⟨S1x3072, .f32⟩
  | .local _ .vmem, ⟨3, _⟩ => ⟨S1x3072, .f32⟩
  | .local _ .vmem, ⟨4, _⟩ => ⟨S1x3072, .f32⟩
  | .local _ .vmem, ⟨5, _⟩ => ⟨S4096x3072, .bf16⟩
  | .local _ .vmem, ⟨6, _⟩ => ⟨S4096x3072, .bf16⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Up.lean ====
abbrev S4096x3072 : Shape := ⟨2, ![4096, 3072]⟩
abbrev S3072x12288 : Shape := ⟨2, ![3072, 12288]⟩
abbrev S12288 : Shape := ⟨1, ![12288]⟩
abbrev S1x12288 : Shape := ⟨2, ![1, 12288]⟩
abbrev S4096x12288 : Shape := ⟨2, ![4096, 12288]⟩
abbrev S4096x384 : Shape := ⟨2, ![4096, 384]⟩
abbrev S1024x3072 : Shape := ⟨2, ![1024, 3072]⟩
abbrev S3072x1024 : Shape := ⟨2, ![3072, 1024]⟩
abbrev S1x1024 : Shape := ⟨2, ![1, 1024]⟩
abbrev S1024x1024 : Shape := ⟨2, ![1024, 1024]⟩
abbrev S1024x384 : Shape := ⟨2, ![1024, 384]⟩
abbrev S32x128 : Shape := ⟨2, ![32, 128]⟩
abbrev S1x128 : Shape := ⟨2, ![1, 128]⟩
abbrev S16x128 : Shape := ⟨2, ![16, 128]⟩
abbrev S16x128x1 : Shape := ⟨3, ![16, 128, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x3072, .bf16⟩
  | .hbm, ⟨1, _⟩ => ⟨S3072x12288, .fp8e4m3⟩
  | .hbm, ⟨2, _⟩ => ⟨S12288, .f32⟩
  | .hbm, ⟨3, _⟩ => ⟨S12288, .f32⟩
  | .hbm, ⟨4, _⟩ => ⟨S1x12288, .f32⟩
  | .hbm, ⟨5, _⟩ => ⟨S1x12288, .f32⟩
  | .hbm, ⟨6, _⟩ => ⟨S4096x12288, .fp8e4m3⟩
  | .hbm, ⟨7, _⟩ => ⟨S4096x384, .f32⟩
  | .hbm, ⟨8, _⟩ => ⟨S4096x12288, .bf16⟩
  | .local _ .vmem, ⟨0, _⟩ => ⟨S1024x3072, .bf16⟩
  | .local _ .vmem, ⟨1, _⟩ => ⟨S1024x3072, .bf16⟩
  | .local _ .vmem, ⟨2, _⟩ => ⟨S3072x1024, .fp8e4m3⟩
  | .local _ .vmem, ⟨3, _⟩ => ⟨S3072x1024, .fp8e4m3⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .fp8e4m3⟩
  | .local _ .vmem, ⟨9, _⟩ => ⟨S1024x1024, .fp8e4m3⟩
  | .local _ .vmem, ⟨10, _⟩ => ⟨S1024x384, .f32⟩
  | .local _ .vmem, ⟨11, _⟩ => ⟨S1024x384, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 12], ![false, false]⟩

@[reducible] def k0_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_6 : BitVec 32 := 32#32
  let v7 : BitVec 32 := Scalar.muli arg10 c32_i32_6
  v7
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_6 : BitVec 32 := 32#32
  let v7 : BitVec 32 := Scalar.muli arg10 c32_i32_6
  let v8 : BitVec 32 := v7
  let v9 : Index := Scalar.indexCast v8
  let c0_7 : Index := 0#32
  ![v9.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_6 : BitVec 32 := 32#32
  let v7 : BitVec 32 := Scalar.muli arg10 c32_i32_6
  let v8 : BitVec 32 := v7
  let v27 : Index := Scalar.indexCast v8
  let c128 : Index := 128#32
  ![v27.toNat, 128]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_6 : BitVec 32 := 32#32
  let v7 : BitVec 32 := Scalar.muli arg10 c32_i32_6
  let v8 : BitVec 32 := v7
  let v45 : Index := Scalar.indexCast v8
  let c256 : Index := 256#32
  ![v45.toNat, 256]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_6 : BitVec 32 := 32#32
  let v7 : BitVec 32 := Scalar.muli arg10 c32_i32_6
  let v8 : BitVec 32 := v7
  let v63 : Index := Scalar.indexCast v8
  let c384 : Index := 384#32
  ![v63.toNat, 384]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_6 : BitVec 32 := 32#32
  let v7 : BitVec 32 := Scalar.muli arg10 c32_i32_6
  let v8 : BitVec 32 := v7
  let v81 : Index := Scalar.indexCast v8
  let c512 : Index := 512#32
  ![v81.toNat, 512]
def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_6 : BitVec 32 := 32#32
  let v7 : BitVec 32 := Scalar.muli arg10 c32_i32_6
  let v8 : BitVec 32 := v7
  let v99 : Index := Scalar.indexCast v8
  let c640 : Index := 640#32
  ![v99.toNat, 640]
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_6 : BitVec 32 := 32#32
  let v7 : BitVec 32 := Scalar.muli arg10 c32_i32_6
  let v8 : BitVec 32 := v7
  let v117 : Index := Scalar.indexCast v8
  let c768 : Index := 768#32
  ![v117.toNat, 768]
def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_6 : BitVec 32 := 32#32
  let v7 : BitVec 32 := Scalar.muli arg10 c32_i32_6
  let v8 : BitVec 32 := v7
  let v135 : Index := Scalar.indexCast v8
  let c896 : Index := 896#32
  ![v135.toNat, 896]
def k0_mult2 (i : grid0.Coords) : BitVec 32 :=
  let arg1 : BitVec 32 := BitVec.ofNat 32 (i 1).val
  let c0_i32_399 : BitVec 32 := 0#32
  let v1229 : BitVec 1 := Scalar.cmpi .sgt arg1 c0_i32_399
  let v1230 : BitVec 32 := Scalar.extui v1229
  let c0_i32_400 : BitVec 32 := 0#32
  let v1231 : BitVec 1 := Scalar.cmpi .slt arg1 c0_i32_400
  let v1232 : BitVec 32 := Scalar.extui v1231
  let v1233 : BitVec 32 := Scalar.subi v1230 v1232
  let c4_i32_398 : BitVec 32 := 4#32
  let c0_i32_401 : BitVec 32 := 0#32
  let v1234 : BitVec 1 := Scalar.cmpi .sgt c4_i32_398 c0_i32_401
  let v1235 : BitVec 32 := Scalar.extui v1234
  let c0_i32_402 : BitVec 32 := 0#32
  let v1236 : BitVec 1 := Scalar.cmpi .slt c4_i32_398 c0_i32_402
  let v1237 : BitVec 32 := Scalar.extui v1236
  let v1238 : BitVec 32 := Scalar.subi v1235 v1237
  let v1239 : BitVec 1 := Scalar.cmpi .ne v1233 v1238
  let v1240 : BitVec 32 := Scalar.remsi arg1 c4_i32_398
  let c0_i32_403 : BitVec 32 := 0#32
  let v1241 : BitVec 1 := Scalar.cmpi .ne v1240 c0_i32_403
  let v1242 : BitVec 1 := Scalar.andi v1239 v1241
  let v1228 : BitVec 32 := Scalar.divsi arg1 c4_i32_398
  let c1_i32_404 : BitVec 32 := 1#32
  let v1243 : BitVec 32 := Scalar.subi v1228 c1_i32_404
  let v1244 : BitVec 32 := Scalar.select v1242 v1243 v1228
  let c128_i32_405 : BitVec 32 := 128#32
  let v1245 : BitVec 32 := Scalar.muli v1244 c128_i32_405
  v1245
def k0_off9 (i : grid0.Coords) (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32_6 : BitVec 32 := 32#32
  let v7 : BitVec 32 := Scalar.muli arg10 c32_i32_6
  let v8 : BitVec 32 := v7
  let v1326 : Index := Scalar.indexCast v8
  let arg1 : BitVec 32 := BitVec.ofNat 32 (i 1).val
  let c0_i32_399 : BitVec 32 := 0#32
  let v1229 : BitVec 1 := Scalar.cmpi .sgt arg1 c0_i32_399
  let v1230 : BitVec 32 := Scalar.extui v1229
  let c0_i32_400 : BitVec 32 := 0#32
  let v1231 : BitVec 1 := Scalar.cmpi .slt arg1 c0_i32_400
  let v1232 : BitVec 32 := Scalar.extui v1231
  let v1233 : BitVec 32 := Scalar.subi v1230 v1232
  let c4_i32_398 : BitVec 32 := 4#32
  let c0_i32_401 : BitVec 32 := 0#32
  let v1234 : BitVec 1 := Scalar.cmpi .sgt c4_i32_398 c0_i32_401
  let v1235 : BitVec 32 := Scalar.extui v1234
  let c0_i32_402 : BitVec 32 := 0#32
  let v1236 : BitVec 1 := Scalar.cmpi .slt c4_i32_398 c0_i32_402
  let v1237 : BitVec 32 := Scalar.extui v1236
  let v1238 : BitVec 32 := Scalar.subi v1235 v1237
  let v1239 : BitVec 1 := Scalar.cmpi .ne v1233 v1238
  let v1240 : BitVec 32 := Scalar.remsi arg1 c4_i32_398
  let c0_i32_403 : BitVec 32 := 0#32
  let v1241 : BitVec 1 := Scalar.cmpi .ne v1240 c0_i32_403
  let v1242 : BitVec 1 := Scalar.andi v1239 v1241
  let v1228 : BitVec 32 := Scalar.divsi arg1 c4_i32_398
  let c1_i32_404 : BitVec 32 := 1#32
  let v1243 : BitVec 32 := Scalar.subi v1228 c1_i32_404
  let v1244 : BitVec 32 := Scalar.select v1242 v1243 v1228
  let c128_i32_405 : BitVec 32 := 128#32
  let v1245 : BitVec 32 := Scalar.muli v1244 c128_i32_405
  let v1246 : BitVec 32 := v1245
  let v1327 : Index := Scalar.indexCast v1246
  ![v1326.toNat, v1327.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UpRefIdeal.lean ====
abbrev S4096x3072 : Shape := ⟨2, ![4096, 3072]⟩
abbrev S3072x12288 : Shape := ⟨2, ![3072, 12288]⟩
abbrev S12288 : Shape := ⟨1, ![12288]⟩
abbrev S1x12288 : Shape := ⟨2, ![1, 12288]⟩
abbrev S4096x12288 : Shape := ⟨2, ![4096, 12288]⟩
abbrev S4096x384 : Shape := ⟨2, ![4096, 384]⟩
abbrev S4096x384x32 : Shape := ⟨3, ![4096, 384, 32]⟩
abbrev S4096x384x1 : Shape := ⟨3, ![4096, 384, 1]⟩

abbrev nBuf : Space → Nat
  | .hbm => 9
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S3072x12288, .fp8e4m3⟩
  | .hbm, ⟨2, _⟩ => ⟨S12288, .f32⟩
  | .hbm, ⟨3, _⟩ => ⟨S12288, .f32⟩
  | .hbm, ⟨4, _⟩ => ⟨S1x12288, .f32⟩
  | .hbm, ⟨5, _⟩ => ⟨S1x12288, .f32⟩
  | .hbm, ⟨6, _⟩ => ⟨S4096x12288, .fp8e4m3⟩
  | .hbm, ⟨7, _⟩ => ⟨S4096x384, .f32⟩
  | .hbm, ⟨8, _⟩ => ⟨S4096x12288, .bf16⟩
  | .local _ .vmem, ⟨0, _⟩ => ⟨S4096x3072, .bf16⟩
  | .local _ .vmem, ⟨1, _⟩ => ⟨S3072x12288, .fp8e4m3⟩
  | .local _ .vmem, ⟨2, _⟩ => ⟨S1x12288, .f32⟩
  | .local _ .vmem, ⟨3, _⟩ => ⟨S1x12288, .f32⟩
  | .local _ .vmem, ⟨4, _⟩ => ⟨S4096x12288, .fp8e4m3⟩
  | .local _ .vmem, ⟨5, _⟩ => ⟨S4096x384, .f32⟩
  | .local _ .vmem, ⟨6, _⟩ => ⟨S4096x12288, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x12288 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x12288 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Conv.lean ====
abbrev S4096x3072 : Shape := ⟨2, ![4096, 3072]⟩
abbrev S7x7x3072 : Shape := ⟨3, ![7, 7, 3072]⟩
abbrev S3072 : Shape := ⟨1, ![3072]⟩
abbrev S49x3072 : Shape := ⟨2, ![49, 3072]⟩
abbrev S_ : Shape := ⟨0, ![]⟩
abbrev S1x3072 : Shape := ⟨2, ![1, 3072]⟩
abbrev S4096x96 : Shape := ⟨2, ![4096, 96]⟩
abbrev S512x3072 : Shape := ⟨2, ![512, 3072]⟩
abbrev S512x96 : Shape := ⟨2, ![512, 96]⟩
abbrev S328x128 : Shape := ⟨2, ![328, 128]⟩
abbrev S24x512x128 : Shape := ⟨3, ![24, 512, 128]⟩
abbrev S32x128 : Shape := ⟨2, ![32, 128]⟩
abbrev S1x128 : Shape := ⟨2, ![1, 128]⟩
abbrev S8x128 : Shape := ⟨2, ![8, 128]⟩
abbrev S16x128 : Shape := ⟨2, ![16, 128]⟩
abbrev S1x16x128 : Shape := ⟨3, ![1, 16, 128]⟩
abbrev S1x32x128 : Shape := ⟨3, ![1, 32, 128]⟩
abbrev S32 : Shape := ⟨1, ![32]⟩
abbrev S32x1 : Shape := ⟨2, ![32, 1]⟩
abbrev S16x128x1 : Shape := ⟨3, ![16, 128, 1]⟩
abbrev S32x32 : Shape := ⟨2, ![32, 32]⟩

abbrev nBuf : Space → Nat
  | .hbm => 18
  | .vmem => 14
  | .smem => 0
  | _ => 0

abbrev bufTy : (tb : Table) → Fin (tcTables nBuf tb) → BufTy
  | .hbm, ⟨0, _⟩ => ⟨S4096x3072, .bf16⟩
  | .hbm, ⟨1, _⟩ => ⟨S7x7x3072, .bf16⟩
  | .hbm, ⟨2, _⟩ => ⟨S3072, .f32⟩
  | .hbm, ⟨3, _⟩ => ⟨S3072, .f32⟩
  | .hbm, ⟨4, _⟩ => ⟨S3072, .f32⟩
  | .hbm, ⟨5, _⟩ => ⟨S49x3072, .bf16⟩
  | .hbm, ⟨6, _⟩ => ⟨S49x3072, .i16⟩
  | .hbm, ⟨7, _⟩ => ⟨S49x3072, .i32⟩
  | .hbm, ⟨8, _⟩ => ⟨S_, .i32⟩
  | .hbm, ⟨9, _⟩ => ⟨S49x3072, .i32⟩
  | .hbm, ⟨10, _⟩ => ⟨S49x3072, .i32⟩
  | .hbm, ⟨11, _⟩ => ⟨S49x3072, .i32⟩
  | .hbm, ⟨12, _⟩ => ⟨S1x3072, .f32⟩
  | .hbm, ⟨13, _⟩ => ⟨S1x3072, .f32⟩
  | .hbm, ⟨14, _⟩ => ⟨S1x3072, .f32⟩
  | .hbm, ⟨15, _⟩ => ⟨S4096x3072, .fp8e4m3⟩
  | .hbm, ⟨16, _⟩ => ⟨S4096x96, .f32⟩
  | .hbm, ⟨17, _⟩ => ⟨S4096x3072, .bf16⟩
  | .local _ .vmem, ⟨0, _⟩ => ⟨S512x3072, .bf16⟩
  | .local _ .vmem, ⟨1, _⟩ => ⟨S512x3072, .bf16⟩
  | .local _ .vmem, ⟨2, _⟩ => ⟨S49x3072, .i32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | .local _ .vmem, ⟨6, _⟩ => ⟨S512x3072, .fp8e4m3⟩
  | .local _ .vmem, ⟨7, _⟩ => ⟨S512x3072, .fp8e4m3⟩
  | .local _ .vmem, ⟨8, _⟩ => ⟨S512x96, .f32⟩
  | .local _ .vmem, ⟨9, _⟩ => ⟨S512x96, .f32⟩
  | .local _ .vmem, ⟨10, _⟩ => ⟨S512x3072, .bf16⟩
  | .local _ .vmem, ⟨11, _⟩ => ⟨S512x3072, .bf16⟩
  | .local _ .vmem, ⟨12, _⟩ => ⟨S328x128, .i32⟩
  | .local _ .vmem, ⟨13, _⟩ => ⟨S24x512x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [BitOps F]

abbrev grid0 : Pipeline.Grid := ⟨1, ![8], ![false]⟩

@[reducible] def k0_t1_loop : Scf.Loop 32 :=
  let c0_i32_1 : BitVec 32 := 0#32
  let c24_i32 : BitVec 32 := 24#32
  let v3 : BitVec 32 := Scalar.addi c0_i32_1 c24_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  v5
def k0_off1 (k0_t1 : Fin k0_t1_loop.trips) : Fin 2 → Nat :=
  let c0 : Index := 0#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v7 : Index := Scalar.indexCast v6
  ![0, v7.toNat]
def k0_off2 (k0_t1 : Fin k0_t1_loop.trips) : Fin 2 → Nat :=
  let c256 : Index := 256#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v10 : Index := Scalar.indexCast v6
  ![256, v10.toNat]
def k0_off3 (k0_t1 : Fin k0_t1_loop.trips) : Fin 2 → Nat :=
  let c32 : Index := 32#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v21 : Index := Scalar.indexCast v6
  ![32, v21.toNat]
def k0_off4 (k0_t1 : Fin k0_t1_loop.trips) : Fin 2 → Nat :=
  let c288 : Index := 288#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v24 : Index := Scalar.indexCast v6
  ![288, v24.toNat]
def k0_off5 (k0_t1 : Fin k0_t1_loop.trips) : Fin 2 → Nat :=
  let c64 : Index := 64#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v35 : Index := Scalar.indexCast v6
  ![64, v35.toNat]
def k0_off6 (k0_t1 : Fin k0_t1_loop.trips) : Fin 2 → Nat :=
  let c320 : Index := 320#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v38 : Index := Scalar.indexCast v6
  ![320, v38.toNat]
def k0_off7 (k0_t1 : Fin k0_t1_loop.trips) : Fin 2 → Nat :=
  let c96 : Index := 96#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v49 : Index := Scalar.indexCast v6
  ![96, v49.toNat]
def k0_off8 (k0_t1 : Fin k0_t1_loop.trips) : Fin 2 → Nat :=
  let c352 : Index := 352#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v52 : Index := Scalar.indexCast v6
  ![352, v52.toNat]
def k0_off9 (k0_t1 : Fin k0_t1_loop.trips) : Fin 2 → Nat :=
  let c128_14 : Index := 128#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v63 : Index := Scalar.indexCast v6
  ![128, v63.toNat]
def k0_off10 (k0_t1 : Fin k0_t1_loop.trips) : Fin 2 → Nat :=
  let c384 : Index := 384#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v66 : Index := Scalar.indexCast v6
  ![384, v66.toNat]
def k0_off11 (k0_t1 : Fin k0_t1_loop.trips) : Fin 2 → Nat :=
  let c160 : Index := 160#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v77 : Index := Scalar.indexCast v6
  ![160, v77.toNat]
def k0_off12 (k0_t1 : Fin k0_t1_loop.trips) : Fin 2 → Nat :=
  let c416 : Index := 416#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v80 : Index := Scalar.indexCast v6
  ![416, v80.toNat]
def k0_off13 (k0_t1 : Fin k0_t1_loop.trips) : Fin 2 → Nat :=
  let c192 : Index := 192#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v91 : Index := Scalar.indexCast v6
  ![192, v91.toNat]
def k0_off14 (k0_t1 : Fin k0_t1_loop.trips) : Fin 2 → Nat :=
  let c448 : Index := 448#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v94 : Index := Scalar.indexCast v6
  ![448, v94.toNat]
def k0_off15 (k0_t1 : Fin k0_t1_loop.trips) : Fin 2 → Nat :=
  let c224 : Index := 224#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v105 : Index := Scalar.indexCast v6
  ![224, v105.toNat]
def k0_off16 (k0_t1 : Fin k0_t1_loop.trips) : Fin 2 → Nat :=
  let c480 : Index := 480#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v108 : Index := Scalar.indexCast v6
  ![480, v108.toNat]
def k0_off17 (k0_t1 : Fin k0_t1_loop.trips) : Fin 2 → Nat :=
  let c0_24 : Index := 0#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v119 : Index := Scalar.indexCast v6
  ![0, v119.toNat]
def k0_off18 (k0_t1 : Fin k0_t1_loop.trips) : Fin 2 → Nat :=
  let c21 : Index := 21#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v125 : Index := Scalar.indexCast v6
  ![21, v125.toNat]
def k0_off19 (k0_t1 : Fin k0_t1_loop.trips) : Fin 2 → Nat :=
  let c14 : Index := 14#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v133 : Index := Scalar.indexCast v6
  ![14, v133.toNat]
def k0_off20 (k0_t1 : Fin k0_t1_loop.trips) : Fin 2 → Nat :=
  let c7 : Index := 7#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v141 : Index := Scalar.indexCast v6
  ![7, v141.toNat]
def k0_off21 (k0_t1 : Fin k0_t1_loop.trips) : Fin 2 → Nat :=
  let c0_26 : Index := 0#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v149 : Index := Scalar.indexCast v6
  ![0, v149.toNat]
def k0_off22 (k0_t1 : Fin k0_t1_loop.trips) : Fin 2 → Nat :=
  let c28 : Index := 28#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v160 : Index := Scalar.indexCast v6
  ![28, v160.toNat]
def k0_off23 (k0_t1 : Fin k0_t1_loop.trips) : Fin 2 → Nat :=
  let c35 : Index := 35#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v199 : Index := Scalar.indexCast v6
  ![35, v199.toNat]
def k0_off24 (k0_t1 : Fin k0_t1_loop.trips) : Fin 2 → Nat :=
  let c42 : Index := 42#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v238 : Index := Scalar.indexCast v6
  ![42, v238.toNat]
def k0_off25 (k0_t1 : Fin k0_t1_loop.trips) : Fin 2 → Nat :=
  let c22 : Index := 22#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v340 : Index := Scalar.indexCast v6
  ![22, v340.toNat]
def k0_off26 (k0_t1 : Fin k0_t1_loop.trips) : Fin 2 → Nat :=
  let c15 : Index := 15#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v349 : Index := Scalar.indexCast v6
  ![15, v349.toNat]
def k0_off27 (k0_t1 : Fin k0_t1_loop.trips) : Fin 2 → Nat :=
  let c8_49 : Index := 8#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v358 : Index := Scalar.indexCast v6
  ![8, v358.toNat]
def k0_off28 (k0_t1 : Fin k0_t1_loop.trips) : Fin 2 → Nat :=
  let c1 : Index := 1#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v367 : Index := Scalar.indexCast v6
  ![1, v367.toNat]
def k0_off29 (k0_t1 : Fin k0_t1_loop.trips) : Fin 2 → Nat :=
  let c29 : Index := 29#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v379 : Index := Scalar.indexCast v6
  ![29, v379.toNat]
def k0_off30 (k0_t1 : Fin k0_t1_loop.trips) : Fin 2 → Nat :=
  let c36 : Index := 36#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v418 : Index := Scalar.indexCast v6
  ![36, v418.toNat]
def k0_off31 (k0_t1 : Fin k0_t1_loop.trips) : Fin 2 → Nat :=
  let c43 : Index := 43#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v457 : Index := Scalar.indexCast v6
  ![43, v457.toNat]
def k0_off32 (k0_t1 : Fin k0_t1_loop.trips) : Fin 2 → Nat :=
  let c23 : Index := 23#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v559 : Index := Scalar.indexCast v6
  ![23, v559.toNat]
def k0_off33 (k0_t1 : Fin k0_t1_loop.trips) : Fin 2 → Nat :=
  let c16 : Index := 16#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v568 : Index := Scalar.indexCast v6
  ![16, v568.toNat]
def k0_off34 (k0_t1 : Fin k0_t1_loop.trips) : Fin 2 → Nat :=
  let c9 : Index := 9#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v577 : Index := Scalar.indexCast v6
  ![9, v577.toNat]
def k0_off35 (k0_t1 : Fin k0_t1_loop.trips) : Fin 2 → Nat :=
  let c2 : Index := 2#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v586 : Index := Scalar.indexCast v6
  ![2, v586.toNat]
def k0_off36 (k0_t1 : Fin k0_t1_loop.trips) : Fin 2 → Nat :=
  let c30 : Index := 30#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v598 : Index := Scalar.indexCast v6
  ![30, v598.toNat]
def k0_off37 (k0_t1 : Fin k0_t1_loop.trips) : Fin 2 → Nat :=
  let c37 : Index := 37#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v637 : Index := Scalar.indexCast v6
  ![37, v637.toNat]
def k0_off38 (k0_t1 : Fin k0_t1_loop.trips) : Fin 2 → Nat :=
  let c44 : Index := 44#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v676 : Index := Scalar.indexCast v6
  ![44, v676.toNat]
def k0_off39 (k0_t1 : Fin k0_t1_loop.trips) : Fin 2 → Nat :=
  let c24 : Index := 24#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v778 : Index := Scalar.indexCast v6
  ![24, v778.toNat]
def k0_off40 (k0_t1 : Fin k0_t1_loop.trips) : Fin 2 → Nat :=
  let c17 : Index := 17#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v787 : Index := Scalar.indexCast v6
  ![17, v787.toNat]
def k0_off41 (k0_t1 : Fin k0_t1_loop.trips) : Fin 2 → Nat :=
  let c10 : Index := 10#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v796 : Index := Scalar.indexCast v6
  ![10, v796.toNat]
def k0_off42 (k0_t1 : Fin k0_t1_loop.trips) : Fin 2 → Nat :=
  let c3 : Index := 3#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v805 : Index := Scalar.indexCast v6
  ![3, v805.toNat]
def k0_off43 (k0_t1 : Fin k0_t1_loop.trips) : Fin 2 → Nat :=
  let c31 : Index := 31#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v817 : Index := Scalar.indexCast v6
  ![31, v817.toNat]
def k0_off44 (k0_t1 : Fin k0_t1_loop.trips) : Fin 2 → Nat :=
  let c38 : Index := 38#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v856 : Index := Scalar.indexCast v6
  ![38, v856.toNat]
def k0_off45 (k0_t1 : Fin k0_t1_loop.trips) : Fin 2 → Nat :=
  let c45_108 : Index := 45#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v895 : Index := Scalar.indexCast v6
  ![45, v895.toNat]
def k0_off46 (k0_t1 : Fin k0_t1_loop.trips) : Fin 2 → Nat :=
  let c25 : Index := 25#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v997 : Index := Scalar.indexCast v6
  ![25, v997.toNat]
def k0_off47 (k0_t1 : Fin k0_t1_loop.trips) : Fin 2 → Nat :=
  let c18 : Index := 18#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1006 : Index := Scalar.indexCast v6
  ![18, v1006.toNat]
def k0_off48 (k0_t1 : Fin k0_t1_loop.trips) : Fin 2 → Nat :=
  let c11 : Index := 11#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1015 : Index := Scalar.indexCast v6
  ![11, v1015.toNat]
def k0_off49 (k0_t1 : Fin k0_t1_loop.trips) : Fin 2 → Nat :=
  let c4 : Index := 4#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1024 : Index := Scalar.indexCast v6
  ![4, v1024.toNat]
def k0_off50 (k0_t1 : Fin k0_t1_loop.trips) : Fin 2 → Nat :=
  let c32_127 : Index := 32#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1036 : Index := Scalar.indexCast v6
  ![32, v1036.toNat]
def k0_off51 (k0_t1 : Fin k0_t1_loop.trips) : Fin 2 → Nat :=
  let c39 : Index := 39#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1075 : Index := Scalar.indexCast v6
  ![39, v1075.toNat]
def k0_off52 (k0_t1 : Fin k0_t1_loop.trips) : Fin 2 → Nat :=
  let c46_136 : Index := 46#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1114 : Index := Scalar.indexCast v6
  ![46, v1114.toNat]
def k0_off53 (k0_t1 : Fin k0_t1_loop.trips) : Fin 2 → Nat :=
  let c26 : Index := 26#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1216 : Index := Scalar.indexCast v6
  ![26, v1216.toNat]
def k0_off54 (k0_t1 : Fin k0_t1_loop.trips) : Fin 2 → Nat :=
  let c19 : Index := 19#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1225 : Index := Scalar.indexCast v6
  ![19, v1225.toNat]
def k0_off55 (k0_t1 : Fin k0_t1_loop.trips) : Fin 2 → Nat :=
  let c12 : Index := 12#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1234 : Index := Scalar.indexCast v6
  ![12, v1234.toNat]
def k0_off56 (k0_t1 : Fin k0_t1_loop.trips) : Fin 2 → Nat :=
  let c5_151 : Index := 5#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1243 : Index := Scalar.indexCast v6
  ![5, v1243.toNat]
def k0_off57 (k0_t1 : Fin k0_t1_loop.trips) : Fin 2 → Nat :=
  let c33 : Index := 33#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1255 : Index := Scalar.indexCast v6
  ![33, v1255.toNat]
def k0_off58 (k0_t1 : Fin k0_t1_loop.trips) : Fin 2 → Nat :=
  let c40 : Index := 40#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1294 : Index := Scalar.indexCast v6
  ![40, v1294.toNat]
def k0_off59 (k0_t1 : Fin k0_t1_loop.trips) : Fin 2 → Nat :=
  let c47_161 : Index := 47#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1333 : Index := Scalar.indexCast v6
  ![47, v1333.toNat]
def k0_off60 (k0_t1 : Fin k0_t1_loop.trips) : Fin 2 → Nat :=
  let c27 : Index := 27#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1435 : Index := Scalar.indexCast v6
  ![27, v1435.toNat]
def k0_off61 (k0_t1 : Fin k0_t1_loop.trips) : Fin 2 → Nat :=
  let c20 : Index := 20#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1444 : Index := Scalar.indexCast v6
  ![20, v1444.toNat]
def k0_off62 (k0_t1 : Fin k0_t1_loop.trips) : Fin 2 → Nat :=
  let c13 : Index := 13#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1453 : Index := Scalar.indexCast v6
  ![13, v1453.toNat]
def k0_off63 (k0_t1 : Fin k0_t1_loop.trips) : Fin 2 → Nat :=
  let c6_176 : Index := 6#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1462 : Index := Scalar.indexCast v6
  ![6, v1462.toNat]
def k0_off64 (k0_t1 : Fin k0_t1_loop.trips) : Fin 2 → Nat :=
  let c34 : Index := 34#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1474 : Index := Scalar.indexCast v6
  ![34, v1474.toNat]
def k0_off65 (k0_t1 : Fin k0_t1_loop.trips) : Fin 2 → Nat :=
  let c41 : Index := 41#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1513 : Index := Scalar.indexCast v6
  ![41, v1513.toNat]
def k0_off66 (k0_t1 : Fin k0_t1_loop.trips) : Fin 2 → Nat :=
  let c48_186 : Index := 48#32
  let c0_i32_1 : BitVec 32 := 0#32
  let c1_i32 : BitVec 32 := 1#32
  let arg11 : BitVec 32 := Scf.iv c0_i32_1 c1_i32 k0_t1
  let c128_i32 : BitVec 32 := 128#32
  let v5 : BitVec 32 := Scalar.muli arg11 c128_i32
  let v6 : BitVec 32 := v5
  let v1552 : Index := Scalar.indexCast v6
  ![48, v1552.toNat]
def k0_off67 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v1653 : Index := Scalar.indexCast arg11
  let c0_199 : Index := 0#32
  let c0_200 : Index := 0#32
  ![v1653.toNat, 0, 0]
def k0_off68 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v1659 : Index := Scalar.indexCast arg11
  let c64_201 : Index := 64#32
  let c0_202 : Index := 0#32
  ![v1659.toNat, 64, 0]
def k0_off69 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v1665 : Index := Scalar.indexCast arg11
  let c128_203 : Index := 128#32
  let c0_204 : Index := 0#32
  ![v1665.toNat, 128, 0]
def k0_off70 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v1671 : Index := Scalar.indexCast arg11
  let c192_205 : Index := 192#32
  let c0_206 : Index := 0#32
  ![v1671.toNat, 192, 0]
def k0_off71 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v3206 : Index := Scalar.indexCast arg11
  let c256_453 : Index := 256#32
  let c0_454 : Index := 0#32
  ![v3206.toNat, 256, 0]
def k0_off72 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v3212 : Index := Scalar.indexCast arg11
  let c320_455 : Index := 320#32
  let c0_456 : Index := 0#32
  ![v3212.toNat, 320, 0]
def k0_off73 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v3218 : Index := Scalar.indexCast arg11
  let c384_457 : Index := 384#32
  let c0_458 : Index := 0#32
  ![v3218.toNat, 384, 0]
def k0_off74 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v3224 : Index := Scalar.indexCast arg11
  let c448_459 : Index := 448#32
  let c0_460 : Index := 0#32
  ![v3224.toNat, 448, 0]
def k0_off75 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v4759 : Index := Scalar.indexCast arg11
  let c16_673 : Index := 16#32
  let c0_674 : Index := 0#32
  ![v4759.toNat, 16, 0]
def k0_off76 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v4765 : Index := Scalar.indexCast arg11
  let c80 : Index := 80#32
  let c0_675 : Index := 0#32
  ![v4765.toNat, 80, 0]
def k0_off77 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v4771 : Index := Scalar.indexCast arg11
  let c144 : Index := 144#32
  let c0_676 : Index := 0#32
  ![v4771.toNat, 144, 0]
def k0_off78 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v4777 : Index := Scalar.indexCast arg11
  let c208_677 : Index := 208#32
  let c0_678 : Index := 0#32
  ![v4777.toNat, 208, 0]
def k0_off79 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v6312 : Index := Scalar.indexCast arg11
  let c272 : Index := 272#32
  let c0_924 : Index := 0#32
  ![v6312.toNat, 272, 0]
def k0_off80 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v6318 : Index := Scalar.indexCast arg11
  let c336 : Index := 336#32
  let c0_925 : Index := 0#32
  ![v6318.toNat, 336, 0]
def k0_off81 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v6324 : Index := Scalar.indexCast arg11
  let c400 : Index := 400#32
  let c0_926 : Index := 0#32
  ![v6324.toNat, 400, 0]
def k0_off82 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v6330 : Index := Scalar.indexCast arg11
  let c464 : Index := 464#32
  let c0_927 : Index := 0#32
  ![v6330.toNat, 464, 0]
def k0_off83 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v7865 : Index := Scalar.indexCast arg11
  let c32_1141 : Index := 32#32
  let c0_1142 : Index := 0#32
  ![v7865.toNat, 32, 0]
def k0_off84 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v7871 : Index := Scalar.indexCast arg11
  let c96_1143 : Index := 96#32
  let c0_1144 : Index := 0#32
  ![v7871.toNat, 96, 0]
def k0_off85 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v7877 : Index := Scalar.indexCast arg11
  let c160_1145 : Index := 160#32
  let c0_1146 : Index := 0#32
  ![v7877.toNat, 160, 0]
def k0_off86 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v7883 : Index := Scalar.indexCast arg11
  let c224_1147 : Index := 224#32
  let c0_1148 : Index := 0#32
  ![v7883.toNat, 224, 0]
def k0_off87 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v9418 : Index := Scalar.indexCast arg11
  let c288_1394 : Index := 288#32
  let c0_1395 : Index := 0#32
  ![v9418.toNat, 288, 0]
def k0_off88 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v9424 : Index := Scalar.indexCast arg11
  let c352_1396 : Index := 352#32
  let c0_1397 : Index := 0#32
  ![v9424.toNat, 352, 0]
def k0_off89 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v9430 : Index := Scalar.indexCast arg11
  let c416_1398 : Index := 416#32
  let c0_1399 : Index := 0#32
  ![v9430.toNat, 416, 0]
def k0_off90 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v9436 : Index := Scalar.indexCast arg11
  let c480_1400 : Index := 480#32
  let c0_1401 : Index := 0#32
  ![v9436.toNat, 480, 0]
def k0_off91 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v10971 : Index := Scalar.indexCast arg11
  let c48_1614 : Index := 48#32
  let c0_1615 : Index := 0#32
  ![v10971.toNat, 48, 0]
def k0_off92 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v10977 : Index := Scalar.indexCast arg11
  let c112_1616 : Index := 112#32
  let c0_1617 : Index := 0#32
  ![v10977.toNat, 112, 0]
def k0_off93 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v10983 : Index := Scalar.indexCast arg11
  let c176_1618 : Index := 176#32
  let c0_1619 : Index := 0#32
  ![v10983.toNat, 176, 0]
def k0_off94 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v10989 : Index := Scalar.indexCast arg11
  let c240 : Index := 240#32
  let c0_1620 : Index := 0#32
  ![v10989.toNat, 240, 0]
def k0_off95 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v12524 : Index := Scalar.indexCast arg11
  let c304_1866 : Index := 304#32
  let c0_1867 : Index := 0#32
  ![v12524.toNat, 304, 0]
def k0_off96 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v12530 : Index := Scalar.indexCast arg11
  let c368 : Index := 368#32
  let c0_1868 : Index := 0#32
  ![v12530.toNat, 368, 0]
def k0_off97 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v12536 : Index := Scalar.indexCast arg11
  let c432 : Index := 432#32
  let c0_1869 : Index := 0#32
  ![v12536.toNat, 432, 0]
def k0_off98 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v12542 : Index := Scalar.indexCast arg11
  let c496 : Index := 496#32
  let c0_1870 : Index := 0#32
  ![v12542.toNat, 496, 0]
@[reducible] def k0_t2_loop : Scf.Loop 32 :=
  let c0_i32_3 : BitVec 32 := 0#32
  let c16_i32 : BitVec 32 := 16#32
  let v4 : BitVec 32 := Scalar.addi c0_i32_3 c16_i32
  let c1_i32_4 : BitVec 32 := 1#32
  ⟨c0_i32_3, v4, c1_i32_4⟩
def k0_off99 (k0_t2 : Fin k0_t2_loop.trips) : Fin 3 → Nat :=
  let c0 : Index := 0#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v37 : Index := Scalar.indexCast v36
  let c0_18 : Index := 0#32
  ![0, v37.toNat, 0]
def k0_off100 (k0_t2 : Fin k0_t2_loop.trips) : Fin 3 → Nat :=
  let c1 : Index := 1#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v40 : Index := Scalar.indexCast v36
  let c0_19 : Index := 0#32
  ![1, v40.toNat, 0]
def k0_off101 (k0_t2 : Fin k0_t2_loop.trips) : Fin 3 → Nat :=
  let c2 : Index := 2#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v44 : Index := Scalar.indexCast v36
  let c0_20 : Index := 0#32
  ![2, v44.toNat, 0]
def k0_off102 (k0_t2 : Fin k0_t2_loop.trips) : Fin 3 → Nat :=
  let c3 : Index := 3#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v48 : Index := Scalar.indexCast v36
  let c0_21 : Index := 0#32
  ![3, v48.toNat, 0]
def k0_off103 (k0_t2 : Fin k0_t2_loop.trips) : Fin 3 → Nat :=
  let c4 : Index := 4#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v52 : Index := Scalar.indexCast v36
  let c0_22 : Index := 0#32
  ![4, v52.toNat, 0]
def k0_off104 (k0_t2 : Fin k0_t2_loop.trips) : Fin 3 → Nat :=
  let c5 : Index := 5#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v56 : Index := Scalar.indexCast v36
  let c0_23 : Index := 0#32
  ![5, v56.toNat, 0]
def k0_off105 (k0_t2 : Fin k0_t2_loop.trips) : Fin 3 → Nat :=
  let c6 : Index := 6#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v60 : Index := Scalar.indexCast v36
  let c0_24 : Index := 0#32
  ![6, v60.toNat, 0]
def k0_off106 (k0_t2 : Fin k0_t2_loop.trips) : Fin 3 → Nat :=
  let c7 : Index := 7#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v64 : Index := Scalar.indexCast v36
  let c0_25 : Index := 0#32
  ![7, v64.toNat, 0]
def k0_off107 (k0_t2 : Fin k0_t2_loop.trips) : Fin 3 → Nat :=
  let c8 : Index := 8#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v68 : Index := Scalar.indexCast v36
  let c0_26 : Index := 0#32
  ![8, v68.toNat, 0]
def k0_off108 (k0_t2 : Fin k0_t2_loop.trips) : Fin 3 → Nat :=
  let c9 : Index := 9#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v72 : Index := Scalar.indexCast v36
  let c0_27 : Index := 0#32
  ![9, v72.toNat, 0]
def k0_off109 (k0_t2 : Fin k0_t2_loop.trips) : Fin 3 → Nat :=
  let c10 : Index := 10#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v76 : Index := Scalar.indexCast v36
  let c0_28 : Index := 0#32
  ![10, v76.toNat, 0]
def k0_off110 (k0_t2 : Fin k0_t2_loop.trips) : Fin 3 → Nat :=
  let c11 : Index := 11#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v80 : Index := Scalar.indexCast v36
  let c0_29 : Index := 0#32
  ![11, v80.toNat, 0]
def k0_off111 (k0_t2 : Fin k0_t2_loop.trips) : Fin 3 → Nat :=
  let c12 : Index := 12#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v84 : Index := Scalar.indexCast v36
  let c0_30 : Index := 0#32
  ![12, v84.toNat, 0]
def k0_off112 (k0_t2 : Fin k0_t2_loop.trips) : Fin 3 → Nat :=
  let c13 : Index := 13#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v88 : Index := Scalar.indexCast v36
  let c0_31 : Index := 0#32
  ![13, v88.toNat, 0]
def k0_off113 (k0_t2 : Fin k0_t2_loop.trips) : Fin 3 → Nat :=
  let c14 : Index := 14#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v92 : Index := Scalar.indexCast v36
  let c0_32 : Index := 0#32
  ![14, v92.toNat, 0]
def k0_off114 (k0_t2 : Fin k0_t2_loop.trips) : Fin 3 → Nat :=
  let c15 : Index := 15#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v96 : Index := Scalar.indexCast v36
  let c0_33 : Index := 0#32
  ![15, v96.toNat, 0]
def k0_off115 (k0_t2 : Fin k0_t2_loop.trips) : Fin 3 → Nat :=
  let c16 : Index := 16#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v100 : Index := Scalar.indexCast v36
  let c0_34 : Index := 0#32
  ![16, v100.toNat, 0]
def k0_off116 (k0_t2 : Fin k0_t2_loop.trips) : Fin 3 → Nat :=
  let c17 : Index := 17#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v104 : Index := Scalar.indexCast v36
  let c0_35 : Index := 0#32
  ![17, v104.toNat, 0]
def k0_off117 (k0_t2 : Fin k0_t2_loop.trips) : Fin 3 → Nat :=
  let c18 : Index := 18#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v108 : Index := Scalar.indexCast v36
  let c0_36 : Index := 0#32
  ![18, v108.toNat, 0]
def k0_off118 (k0_t2 : Fin k0_t2_loop.trips) : Fin 3 → Nat :=
  let c19 : Index := 19#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v112 : Index := Scalar.indexCast v36
  let c0_37 : Index := 0#32
  ![19, v112.toNat, 0]
def k0_off119 (k0_t2 : Fin k0_t2_loop.trips) : Fin 3 → Nat :=
  let c20 : Index := 20#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v116 : Index := Scalar.indexCast v36
  let c0_38 : Index := 0#32
  ![20, v116.toNat, 0]
def k0_off120 (k0_t2 : Fin k0_t2_loop.trips) : Fin 3 → Nat :=
  let c21 : Index := 21#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v120 : Index := Scalar.indexCast v36
  let c0_39 : Index := 0#32
  ![21, v120.toNat, 0]
def k0_off121 (k0_t2 : Fin k0_t2_loop.trips) : Fin 3 → Nat :=
  let c22 : Index := 22#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v124 : Index := Scalar.indexCast v36
  let c0_40 : Index := 0#32
  ![22, v124.toNat, 0]
def k0_off122 (k0_t2 : Fin k0_t2_loop.trips) : Fin 3 → Nat :=
  let c23 : Index := 23#32
  let c2_i32 : BitVec 32 := 2#32
  let c0_i32_3 : BitVec 32 := 0#32
  let c1_i32_4 : BitVec 32 := 1#32
  let arg11 : BitVec 32 := Scf.iv c0_i32_3 c1_i32_4 k0_t2
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v35 : BitVec 32 := Scalar.muli c2_i32 v32
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let v36 : BitVec 32 := Scalar.addi v35 v21
  let v128 : Index := Scalar.indexCast v36
  let c0_41 : Index := 0#32
  ![23, v128.toNat, 0]
def k0_mult2 (k0_t2 : Fin k0_t2_loop.trips) : BitVec 32 :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  v34
def k0_off123 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v1463 : Index := Scalar.indexCast v310
  let c0_449 : Index := 0#32
  ![v1463.toNat, 0]
def k0_off124 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v1467 : Index := Scalar.indexCast v310
  let c128_451 : Index := 128#32
  ![v1467.toNat, 128]
def k0_off125 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v1471 : Index := Scalar.indexCast v310
  let c256_453 : Index := 256#32
  ![v1471.toNat, 256]
def k0_off126 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v1475 : Index := Scalar.indexCast v310
  let c384_455 : Index := 384#32
  ![v1475.toNat, 384]
def k0_off127 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v1479 : Index := Scalar.indexCast v310
  let c512_457 : Index := 512#32
  ![v1479.toNat, 512]
def k0_off128 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v1483 : Index := Scalar.indexCast v310
  let c640_459 : Index := 640#32
  ![v1483.toNat, 640]
def k0_off129 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v1487 : Index := Scalar.indexCast v310
  let c768_461 : Index := 768#32
  ![v1487.toNat, 768]
def k0_off130 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v1491 : Index := Scalar.indexCast v310
  let c896_463 : Index := 896#32
  ![v1491.toNat, 896]
def k0_off131 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v1572 : Index := Scalar.indexCast v310
  let c0_489 : Index := 0#32
  ![v1572.toNat, 0]
def k0_off132 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v2726 : Index := Scalar.indexCast v310
  let c1024_861 : Index := 1024#32
  ![v2726.toNat, 1024]
def k0_off133 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v2730 : Index := Scalar.indexCast v310
  let c1152_863 : Index := 1152#32
  ![v2730.toNat, 1152]
def k0_off134 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v2734 : Index := Scalar.indexCast v310
  let c1280_865 : Index := 1280#32
  ![v2734.toNat, 1280]
def k0_off135 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v2738 : Index := Scalar.indexCast v310
  let c1408_867 : Index := 1408#32
  ![v2738.toNat, 1408]
def k0_off136 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v2742 : Index := Scalar.indexCast v310
  let c1536_869 : Index := 1536#32
  ![v2742.toNat, 1536]
def k0_off137 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v2746 : Index := Scalar.indexCast v310
  let c1664_871 : Index := 1664#32
  ![v2746.toNat, 1664]
def k0_off138 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v2750 : Index := Scalar.indexCast v310
  let c1792_873 : Index := 1792#32
  ![v2750.toNat, 1792]
def k0_off139 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v2754 : Index := Scalar.indexCast v310
  let c1920_875 : Index := 1920#32
  ![v2754.toNat, 1920]
def k0_off140 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v2835 : Index := Scalar.indexCast v310
  let c32 : Index := 32#32
  ![v2835.toNat, 32]
def k0_off141 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v3989 : Index := Scalar.indexCast v310
  let c2048_1273 : Index := 2048#32
  ![v3989.toNat, 2048]
def k0_off142 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v3993 : Index := Scalar.indexCast v310
  let c2176_1275 : Index := 2176#32
  ![v3993.toNat, 2176]
def k0_off143 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v3997 : Index := Scalar.indexCast v310
  let c2304_1277 : Index := 2304#32
  ![v3997.toNat, 2304]
def k0_off144 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v4001 : Index := Scalar.indexCast v310
  let c2432_1279 : Index := 2432#32
  ![v4001.toNat, 2432]
def k0_off145 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v4005 : Index := Scalar.indexCast v310
  let c2560_1281 : Index := 2560#32
  ![v4005.toNat, 2560]
def k0_off146 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v4009 : Index := Scalar.indexCast v310
  let c2688_1283 : Index := 2688#32
  ![v4009.toNat, 2688]
def k0_off147 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v4013 : Index := Scalar.indexCast v310
  let c2816_1285 : Index := 2816#32
  ![v4013.toNat, 2816]
def k0_off148 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v4017 : Index := Scalar.indexCast v310
  let c2944_1287 : Index := 2944#32
  ![v4017.toNat, 2944]
def k0_off149 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c0_i32_6 : BitVec 32 := 0#32
  let v6 : BitVec 1 := Scalar.cmpi .sgt arg11 c0_i32_6
  let v7 : BitVec 32 := Scalar.extui v6
  let c0_i32_7 : BitVec 32 := 0#32
  let v8 : BitVec 1 := Scalar.cmpi .slt arg11 c0_i32_7
  let v9 : BitVec 32 := Scalar.extui v8
  let v10 : BitVec 32 := Scalar.subi v7 v9
  let c8_i32 : BitVec 32 := 8#32
  let c0_i32_8 : BitVec 32 := 0#32
  let v11 : BitVec 1 := Scalar.cmpi .sgt c8_i32 c0_i32_8
  let v12 : BitVec 32 := Scalar.extui v11
  let c0_i32_9 : BitVec 32 := 0#32
  let v13 : BitVec 1 := Scalar.cmpi .slt c8_i32 c0_i32_9
  let v14 : BitVec 32 := Scalar.extui v13
  let v15 : BitVec 32 := Scalar.subi v12 v14
  let v16 : BitVec 1 := Scalar.cmpi .ne v10 v15
  let v17 : BitVec 32 := Scalar.remsi arg11 c8_i32
  let c0_i32_10 : BitVec 32 := 0#32
  let v18 : BitVec 1 := Scalar.cmpi .ne v17 c0_i32_10
  let v19 : BitVec 1 := Scalar.andi v16 v18
  let v5 : BitVec 32 := Scalar.divsi arg11 c8_i32
  let c1_i32_11 : BitVec 32 := 1#32
  let v20 : BitVec 32 := Scalar.subi v5 c1_i32_11
  let v21 : BitVec 32 := Scalar.select v19 v20 v5
  let c256_i32 : BitVec 32 := 256#32
  let v33 : BitVec 32 := Scalar.muli v21 c256_i32
  let c8_i32_12 : BitVec 32 := 8#32
  let c0_i32_13 : BitVec 32 := 0#32
  let v22 : BitVec 1 := Scalar.cmpi .eq c8_i32_12 c0_i32_13
  let c1_i32_14 : BitVec 32 := 1#32
  let v23 : BitVec 32 := Scalar.select v22 c1_i32_14 c8_i32_12
  let v24 : BitVec 32 := Scalar.remsi arg11 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let v34 : BitVec 32 := Scalar.addi v33 v32
  let v310 : BitVec 32 := v34
  let v4098 : Index := Scalar.indexCast v310
  let c64 : Index := 64#32
  ![v4098.toNat, 64]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S49x3072 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Proof.DownMath.lean ====
/-
  What one element of the second MLP product with its epilogue is, over the extended reals: the residual plus the
  layer scale times the sum of products scaled by the weight column's scale and shifted by its bias.
-/
module

public import Idealize.ShloMosaic.Lib.Pointwise
public import Idealize.ShloMosaic.PureOps.Ideal

@[expose] public section

noncomputable section

namespace Cert.DownMath

open Idealize.ShloMosaic
open scoped BigOperators

/-- Element `(i 0, i 1)` of the result: `x + ls · ((∑ₖ a·w) · ws + b)`, the vectors read at column `i 1`. -/
def out (a : (⟨2, ![4096, 12288]⟩ : Shape).Idx → EReal) (w : (⟨2, ![12288, 3072]⟩ : Shape).Idx → EReal)
    (ws b ls : (⟨1, ![3072]⟩ : Shape).Idx → EReal) (x : (⟨2, ![4096, 3072]⟩ : Shape).Idx → EReal)
    (i : (⟨2, ![4096, 3072]⟩ : Shape).Idx) : EReal :=
  x i + ls (ix1 (i 1)) * ((∑ k : Fin 12288, a (ix2 (i 0) k) * w (ix2 k (i 1))) * ws (ix1 (i 1)) + b (ix1 (i 1)))

end Cert.DownMath

end
-- ==== Proof.DownKernel.lean ====
/-
  The kernel's result array, over the extended reals, is `DownMath.out` of its arguments: each grid point writes one
  512 x 512 block, and that block is the function's own block.
-/
module

public import proofs.«01_k».proof.Proof.Gen.DownIdeal.Value
public import proofs.«01_k».proof.Proof.DownMath
public import Idealize.ShloMosaic.Lib.Pipeline.ValueKit
public import Idealize.ShloMosaic.Lib.Pointwise
public import Idealize.ShloMosaic.Lib.Claim

@[expose] public section

set_option maxRecDepth 16384

noncomputable section

namespace Cert.DownIdeal.RefValue

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result array as one function of device `c`'s argument arrays. -/
def G (c : Dev nD) : Buf (Elt Ideal) ((c : Thread nD τ).loc main_v3) :=
  DownMath.out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- Every window's block index at every grid point: rows go with the first grid axis, columns with the second. -/
theorem idx : ∀ t : Fin cfg0.N, win0_0.index t = ![(grid0.coords t 0).val, 0]
    ∧ win0_1.index t = ![0, (grid0.coords t 1).val] ∧ win0_2.index t = ![0, (grid0.coords t 1).val]
    ∧ win0_3.index t = ![0, (grid0.coords t 1).val] ∧ win0_4.index t = ![0, (grid0.coords t 1).val]
    ∧ win0_5.index t = ![(grid0.coords t 0).val, (grid0.coords t 1).val]
    ∧ win0_6.index t = ![(grid0.coords t 0).val, (grid0.coords t 1).val] :=
  (by decide +kernel : ∀ t : Fin grid0.N, _)

/-- The result array after the run: the blocks that the grid points write tile it, and each is `G`'s own block. -/
theorem final (c : Dev nD) : (dats m 0 c).arrAt 6 cfg0.N = G m c := by
  refine (dats m 0 c).arrAt_eq_of_covers 6 _ (by decide +kernel) fun t hf y => ?_
  blk_simp
  rw [after0_6]
  frame_out
  unfold_payloads
  pointwise
  unfold G DownMath.out
  blk_point [iblk, V, idx t]

end Cert.DownIdeal.RefValue

end
-- ==== Proof.DownReference.lean ====
/-
  The reference's result array, over the extended reals, is `DownMath.out` of its arguments: the reference is one
  block, which is the whole array.
-/
module

public import proofs.«01_k».proof.Proof.Gen.DownRefIdeal.Value
public import proofs.«01_k».proof.Proof.DownMath
public import Idealize.ShloMosaic.Lib.Pipeline.ValueKit
public import Idealize.ShloMosaic.Lib.Pointwise
public import Idealize.ShloMosaic.Lib.Claim

@[expose] public section

set_option maxRecDepth 16384

noncomputable section

namespace Cert.DownRefIdeal.RefValue

open Cert.DownRefIdeal Cert.DownRefIdeal.Gen Idealize.ShloMosaic Idealize.ShloMosaic.TcCoe Idealize.SL.Sem
open Idealize.ShloMosaic.Pipeline (Dat)

variable (m : (ℓ : Loc nD τ sig) → Buf (Elt Ideal) ℓ)

/-- The result array as one function of device `c`'s argument arrays. -/
def G (c : Dev nD) : Buf (Elt Ideal) ((c : Thread nD τ).loc main_v3) :=
  DownMath.out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The result array after the run. -/
theorem final (c : Dev nD) : (dats m 0 c).arrAt 6 cfg0.N = G m c := by
  refine (dats m 0 c).arrAt_eq_of_covers 6 _ (by decide +kernel) fun t hf y => ?_
  blk_simp
  rw [after0_6]
  frame_out
  unfold_payloads
  pointwise
  unfold G DownMath.out
  blk_point [iblk, V, idx t]

end Cert.DownRefIdeal.RefValue

end
-- ==== Proof.UpFrame.lean ====
/- The frame of the first call: the program runs to the end and leaves its arguments as they were. Nothing is said here of
   the three outputs' contents. -/
module

public import proofs.«01_k».proof.Proof.Gen.Up.Frame
public import proofs.«01_k».proof.Proof.Gen.Up.Launch
public import proofs.«01_k».proof.Proof.Gen.Up.Skeleton
public import proofs.«01_k».proof.Proof.Gen.Up.Loops
public import proofs.«01_k».proof.Proof.Gen.Up.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Up.Run

open Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame from the run -/

/-- The arguments end unchanged: a windowed input since no point writes it back, the other arguments since no window holds them. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The kernel body on any buffers -/

/-- Each window's current buffer at point `t`, and that it is a whole buffer. -/
abbrev ms0_0 (t : Fin cfg0.N) : Memref sig .tc .vmem S1024x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
/-- The accumulator, a buffer of the kernel's own. -/
abbrev scM0_0 : Memref sig .tc .vmem S1024x1024 .f32 := Memref.whole cc0_scratch0

/-- The kernel's own buffers, held at some contents, with the accumulator as a memref. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body's triple: the inputs' buffers hold their blocks and are left so; the result buffers and the accumulator hold anything
    before and after. -/
theorem kernelRun0_A (c : Dev nD) (i : grid0.Coords) (arg2 : Memref sig .tc .vmem S1024x3072 .bf16) (harg2 : arg2.IsWhole) (arg3 : Memref sig .tc .vmem S3072x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .fp8e4m3) (harg6 : arg6.IsWhole) (arg7 : Memref sig .tc .vmem S1024x384 .f32) (harg7 : arg7.IsWhole) (arg8 : Memref sig .tc .vmem S1024x1024 .bf16) (harg8 : arg8.IsWhole) (arg9 : Memref sig .tc .vmem S1024x1024 .f32) (harg9 : arg9.IsWhole)
    (x0 : Vec F S1024x3072 .bf16) (x1 : Vec F S3072x1024 .fp8e4m3) (x2 : Vec F S1x1024 .f32) (x3 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_mlp_up i arg2 harg2 arg3 harg3 arg4 harg4 arg5 harg5 arg6 harg6 arg7 harg7 arg8 harg8 arg9 harg9) K := by
    intro E K
    simp only [cc0_mlp_up_eq_skeleton]; unfold cc0_mlp_up_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact HS0
    ipureintro; rfl

/-! ## The pipeline's proof data -/

/-- The result windows, whose contents are left open here. -/
def forgets0 : Fin 7 → Bool := fun w => w.val == 4 || w.val == 5 || w.val == 6

/-- The proof data: the arrays as the call finds them; each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this one, which takes unfolding plain definitions
-- in a metavariable's type
set_option backward.isDefEq.respectTransparency.types false in
/-- Every execution ends, with the inputs' arrays as they were and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every execution ends with the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame: every execution ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Up.Run

end
-- ==== Proof.ConvFrame.lean ====
/- The frame of the convolution and layer norm: the program runs to the end and leaves its arguments as they were. Nothing is said here of
   the three outputs' contents. -/
module

public import proofs.«01_k».proof.Proof.Gen.Conv.Frame
public import proofs.«01_k».proof.Proof.Gen.Conv.Launch
public import proofs.«01_k».proof.Proof.Gen.Conv.Skeleton
public import proofs.«01_k».proof.Proof.Gen.Conv.Loops
public import proofs.«01_k».proof.Proof.Gen.Conv.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Conv.Run

open Cert.Conv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The frame from the run -/

/-- The arguments end unchanged: a windowed input since no point writes it back, the other arguments since no window holds them. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The kernel body on any buffers -/

/-- Each window's current buffer at point `t`, and that it is a whole buffer. -/
abbrev ms0_0 (t : Fin cfg0.N) : Memref sig .tc .vmem S512x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S49x3072 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x3072 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x96 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x3072 .bf16 := win0_7.stage (cfg0.slots t 7)
abbrev hs0_7 (t : Fin cfg0.N) : (ms0_7 t).IsWhole := hstage0_7 ((cfg0.slots t 7).cast nbuf0_7)
/-- The padded rows, a buffer of the kernel's own, -/
abbrev scM0_0 : Memref sig .tc .vmem S328x128 .i32 := Memref.whole cc0_scratch0
/-- and the sums. -/
abbrev scM0_1 : Memref sig .tc .vmem S24x512x128 .f32 := Memref.whole cc0_scratch1

/-- The kernel's own buffers, held at some contents, as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 2000000 in
/-- The body's triple: the inputs' buffers hold their blocks and are left so; the result buffers and the kernel's own hold anything
    before and after. -/
theorem kernelRun0_A (c : Dev nD) (i : grid0.Coords) (arg1 : Memref sig .tc .vmem S512x3072 .bf16) (harg1 : arg1.IsWhole) (arg2 : Memref sig .tc .vmem S49x3072 .i32) (harg2 : arg2.IsWhole) (arg3 : Memref sig .tc .vmem S1x3072 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S512x3072 .fp8e4m3) (harg6 : arg6.IsWhole) (arg7 : Memref sig .tc .vmem S512x96 .f32) (harg7 : arg7.IsWhole) (arg8 : Memref sig .tc .vmem S512x3072 .bf16) (harg8 : arg8.IsWhole) (arg9 : Memref sig .tc .vmem S328x128 .i32) (harg9 : arg9.IsWhole) (arg10 : Memref sig .tc .vmem S24x512x128 .f32) (harg10 : arg10.IsWhole)
    (x0 : Vec F S512x3072 .bf16) (x1 : Vec F S49x3072 .i32) (x2 : Vec F S1x3072 .f32) (x3 : Vec F S1x3072 .f32) (x4 : Vec F S1x3072 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_conv_ln i arg1 harg1 arg2 harg2 arg3 harg3 arg4 harg4 arg5 harg5 arg6 harg6 arg7 harg7 arg8 harg8 arg9 harg9 arg10 harg10) K := by
    intro E K
    simp only [cc0_conv_ln_eq_skeleton]; unfold cc0_conv_ln_skel
    dsimp only
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4
    by_cases h0 : Scalar.cmpi .ne (Scalar.extui (Scalar.cmpi .eq (BitVec.ofNat 32 (i 0).val) 0#32)) 0#32 = 1#1
    · rw [dif_pos h0]
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      iexists _, _; isplitr; swap; · iexact H9
      ipureintro; rfl
    · rw [dif_neg h0]
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      iexists _, _; isplitr; swap; · iexact H9
      ipureintro; rfl

/-! ## The pipeline's proof data -/

/-- The result windows, whose contents are left open here. -/
def forgets0 : Fin 8 → Bool := fun w => w.val == 5 || w.val == 6 || w.val == 7

/-- The proof data: the arrays as the call finds them; each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this one, which takes unfolding plain definitions
-- in a metavariable's type
set_option backward.isDefEq.respectTransparency.types false in
/-- Every execution ends, with the inputs' arrays as they were and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every execution ends with the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame: every execution ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Conv.Run

end
-- ==== Proof.UpMath.lean ====
/-
  The quantiser of the first MLP product, over the extended reals: a block of 32 values takes as scale the power of two
  next above its largest magnitude over 448. `expo` is that power's exponent with a bfloat16's bias, by its order; the
  reference's logarithm and the kernel's search for it are both it.
-/
module

public import Idealize.ShloMosaic.Lib.Pointwise
public import Idealize.ShloMosaic.PureOps.Ideal

@[expose] public section

noncomputable section

namespace Cert.UpMath

open Idealize.ShloMosaic
open scoped BigOperators

/-- A power of two. -/
def pw (z : ℤ) : EReal := (((2 : ℝ) ^ z : ℝ) : EReal)

theorem pw_le_pw (y z : ℤ) : pw y ≤ pw z ↔ y ≤ z := by
  unfold pw
  rw [EReal.coe_le_coe_iff]
  exact zpow_le_zpow_iff_right₀ (by norm_num)

theorem pw_mul (y z : ℤ) : pw y * pw z = pw (y + z) := by
  unfold pw
  rw [← EReal.coe_mul, ← zpow_add₀ (by norm_num)]

/-- The float32 pattern of exponent field `n` is that power of two. -/
theorem ofBits_f32 : ∀ n : Fin 255, 0 < n.val → Ideal.ofBits .f32 (BitVec.ofNat 32 (8388608 * n.val)) = pw (n.val - 127) := by
  intro n hn
  have h1 : ∀ n : Fin 255, ((BitVec.ofNat 32 (8388608 * n.val)).extractLsb' 31 1 == 1#1) = false
      ∧ ((BitVec.ofNat 32 (8388608 * n.val)).extractLsb' 23 8).toNat = n.val
      ∧ ((BitVec.ofNat 32 (8388608 * n.val)).extractLsb' 0 23).toNat = 0 := by decide +kernel
  obtain ⟨a, b, c⟩ := h1 n
  simp only [Ideal.ofBits, Ideal.ieee, a, b, c]
  rw [if_neg (by have := n.isLt; omega), if_neg (by omega)]
  unfold pw
  congr 1
  have : (2 : ℝ) ^ ((n.val : ℤ) - (2 ^ (8 - 1) - 1) - ((23 : ℕ) : ℤ)) * (2 : ℝ) ^ (23 : ℤ) = (2 : ℝ) ^ ((n.val : ℤ) - 127) := by
    rw [← zpow_add₀ (by norm_num)]; congr 1; norm_num
  rw [← this]
  push_cast
  norm_num
  ring

/-- … and the bfloat16 pattern. -/
theorem ofBits_bf16 : ∀ n : Fin 255, 0 < n.val → Ideal.ofBits .bf16 (BitVec.ofNat 16 (128 * n.val)) = pw (n.val - 127) := by
  intro n hn
  have h1 : ∀ n : Fin 255, ((BitVec.ofNat 16 (128 * n.val)).extractLsb' 15 1 == 1#1) = false
      ∧ ((BitVec.ofNat 16 (128 * n.val)).extractLsb' 7 8).toNat = n.val
      ∧ ((BitVec.ofNat 16 (128 * n.val)).extractLsb' 0 7).toNat = 0 := by decide +kernel
  obtain ⟨a, b, c⟩ := h1 n
  simp only [Ideal.ofBits, Ideal.ieee, a, b, c]
  rw [if_neg (by have := n.isLt; omega), if_neg (by omega)]
  unfold pw
  congr 1
  have : (2 : ℝ) ^ ((n.val : ℤ) - (2 ^ (8 - 1) - 1) - ((7 : ℕ) : ℤ)) * (2 : ℝ) ^ (7 : ℤ) = (2 : ℝ) ^ ((n.val : ℤ) - 127) := by
    rw [← zpow_add₀ (by norm_num)]; congr 1; norm_num
  rw [← this]
  push_cast
  norm_num
  ring

/-! ### The exponent -/

/-- The largest `n ≤ 246` with `2 ^ (n - 127) ≤ a`, zero if there is none above zero. -/
def expo (a : EReal) : ℕ := by
  classical exact Nat.findGreatest (fun n => pw (n - 127) ≤ a) 246

theorem expo_le (a : EReal) : expo a ≤ 246 := Nat.findGreatest_le _

theorem le_expo (a : EReal) (n : ℕ) (h1 : 1 ≤ n) (h2 : n ≤ 246) : n ≤ expo a ↔ pw (n - 127) ≤ a := by
  classical
  constructor
  · intro h
    have h0 : expo a ≠ 0 := by omega
    have hs : pw ((expo a : ℕ) - 127) ≤ a :=
      Nat.findGreatest_of_ne_zero (P := fun n : ℕ => pw (n - 127) ≤ a) (n := 246) rfl h0
    exact le_trans ((pw_le_pw _ _).2 (by omega)) hs
  · intro h
    exact Nat.le_findGreatest (P := fun n : ℕ => pw (n - 127) ≤ a) h2 h

theorem expo_eq_zero (a : EReal) : expo a = 0 ↔ a < pw (-126) := by
  have := le_expo a 1 (by omega) (by omega)
  rw [show ((1 : ℕ) : ℤ) - 127 = -126 by norm_num] at this
  constructor
  · intro h
    by_contra h2
    rw [not_lt, ← this] at h2
    omega
  · intro h
    by_contra h2
    exact absurd (this.1 (by omega)) (not_le.2 h)

theorem expo_mono {a b : EReal} (h : a ≤ b) : expo a ≤ expo b := by
  by_cases h0 : expo a = 0
  · omega
  · exact (le_expo b _ (by omega) (expo_le a)).2 (le_trans ((le_expo a _ (by omega) (expo_le a)).1 le_rfl) h)

/-- The exponent used: the scale of a block of zeros is one. -/
def fixE (n : ℕ) : ℕ := if n = 0 then 126 else n

theorem fixE_pos (n : ℕ) : 1 ≤ fixE n := by unfold fixE; split_ifs <;> omega
theorem fixE_le (n : ℕ) (h : n ≤ 246) : fixE n ≤ 246 := by unfold fixE; split_ifs <;> omega

/-- The quantiser's reciprocal of 448. -/
def c : EReal := Ideal.ofBits .f32 0x3B124925#32

theorem c_pos : ∃ r : ℝ, 0 < r ∧ c = (r : EReal) := by
  refine ⟨(9586981 : ℝ) * 2 ^ (-32 : ℤ), by positivity, ?_⟩
  unfold c
  simp [Ideal.ofBits, Ideal.ieee, -EReal.coe_mul]

/-- The magnitude of a value times `c`. -/
def amag (h : EReal) : EReal := max h (-h) * c

theorem mul_c_mono {x y : EReal} (h : x ≤ y) : x * c ≤ y * c := by
  obtain ⟨r, hr, e⟩ := c_pos
  rw [e]
  exact mul_le_mul_of_nonneg_right h (by exact_mod_cast hr.le)

/-- The magnitude may be taken after the product. -/
theorem abs_mul_c (h : EReal) : max (h * c) (-(h * c)) = amag h := by
  unfold amag
  rw [← EReal.neg_mul]
  rcases le_total h (-h) with h1 | h1
  · rw [max_eq_right h1, max_eq_right (mul_c_mono h1)]
  · rw [max_eq_left h1, max_eq_left (mul_c_mono h1)]

/-- The exponent of a block of 32 values. -/
def blockE (f : Fin 32 → EReal) : ℕ := fixE (Finset.univ.sup fun m => expo (amag (f m)))

theorem blockE_pos (f : Fin 32 → EReal) : 1 ≤ blockE f := fixE_pos _
theorem blockE_le (f : Fin 32 → EReal) : blockE f ≤ 246 :=
  fixE_le _ (Finset.sup_le fun _ _ => expo_le _)

/-- The largest of the exponents is the exponent of the largest magnitude. -/
theorem sup_expo (f : Fin 32 → EReal) :
    (Finset.univ.sup fun m => expo (amag (f m))) = expo ((Finset.univ.sup fun m => max (f m) (-f m)) * c) := by
  apply le_antisymm
  · exact Finset.sup_le fun m hm => expo_mono (mul_c_mono (Finset.le_sup (f := fun m => max (f m) (-f m)) hm))
  · obtain ⟨m, hm, e⟩ := Finset.exists_mem_eq_sup Finset.univ Finset.univ_nonempty fun m => max (f m) (-f m)
    rw [e]
    exact Finset.le_sup (f := fun m => expo (amag (f m))) hm

/-! ### The reference's exponent -/

/-- The exponent by the logarithm, as the reference takes it. -/
def refE (t : EReal) : EReal :=
  if t < pw (-126) then 0 else min (Ideal.liftRound Int.floor (Ideal.div (Ideal.log t) (Ideal.log (pw 1))) + 1) ((120 : ℝ) : EReal)

theorem log_two : Ideal.log (pw 1) = ((Real.log 2 : ℝ) : EReal) := by
  unfold pw
  rw [Ideal.log_coe, if_neg (by norm_num)]
  norm_num

/-- It is `expo`'s, unbiased. -/
theorem refE_eq (t : EReal) : refE t = (((fixE (expo t) : ℝ) - 126 : ℝ) : EReal) := by
  have hl2 : (0 : ℝ) < Real.log 2 := Real.log_pos (by norm_num)
  unfold refE
  by_cases h : t < pw (-126)
  · rw [if_pos h, (expo_eq_zero t).2 h]
    unfold fixE
    norm_num
  · rw [if_neg h, log_two]
    have h0 : expo t ≠ 0 := fun e => h ((expo_eq_zero t).1 e)
    rw [show fixE (expo t) = expo t from if_neg h0]
    rw [not_lt] at h
    induction t with
    | bot => exact absurd h (by unfold pw; simp)
    | top =>
      have e : expo ⊤ = 246 := le_antisymm (expo_le _) ((le_expo _ 246 (by omega) le_rfl).2 le_top)
      rw [e, Ideal.log_top, Ideal.div, if_neg (by exact_mod_cast hl2.ne'), ← EReal.coe_inv,
        EReal.top_mul_coe_of_pos (inv_pos.2 hl2)]
      have : Ideal.liftRound Int.floor ⊤ = ⊤ := rfl
      rw [this]
      have t1 : (⊤ : EReal) + 1 = ⊤ := rfl
      rw [t1, min_eq_right le_top]
      norm_num
    | coe r =>
      have hr : (2 : ℝ) ^ (-126 : ℤ) ≤ r := by unfold pw at h; exact_mod_cast h
      have hr0 : 0 < r := lt_of_lt_of_le (by positivity) hr
      rw [Ideal.log_coe, if_neg (not_le.2 hr0), Ideal.div, if_neg (by exact_mod_cast hl2.ne'), ← EReal.coe_inv, ← EReal.coe_mul]
      have hf : Ideal.liftRound Int.floor ((Real.log r * (Real.log 2)⁻¹ : ℝ) : EReal)
          = (((⌊Real.log r * (Real.log 2)⁻¹⌋ : ℤ) : ℝ) : EReal) := rfl
      rw [hf]
      set L : ℤ := ⌊Real.log r * (Real.log 2)⁻¹⌋ with hLdef
      have hL : ∀ z : ℤ, z ≤ L ↔ (2 : ℝ) ^ z ≤ r := by
        intro z
        rw [hLdef, Int.le_floor, ← div_eq_mul_inv, le_div_iff₀ hl2, ← Real.log_zpow, Real.log_le_log_iff (by positivity) hr0]
      have hk : ∀ k : ℕ, 1 ≤ k → k ≤ 246 → (k ≤ expo (r : EReal) ↔ (k : ℤ) - 127 ≤ L) := by
        intro k h1 h2
        rw [le_expo _ k h1 h2, hL]
        unfold pw
        rw [EReal.coe_le_coe_iff]
      have hn := (hk (expo r) (by omega) (expo_le _)).1 le_rfl
      have hmin : min (L + 1) 120 = (expo (r : EReal) : ℤ) - 126 := by
        have hle := expo_le (r : EReal)
        by_cases h246 : expo (r : EReal) = 246
        · rw [h246] at hn ⊢; push_cast at hn ⊢; omega
        · have := (hk (expo (r : EReal) + 1) (by omega) (by omega)).not.1 (by omega)
          push_cast at this
          omega
      have : min ((((L : ℤ) : ℝ) : EReal) + 1) ((120 : ℝ) : EReal) = (((min (L + 1) 120 : ℤ) : ℝ) : EReal) := by
        rw [show (1 : EReal) = ((1 : ℝ) : EReal) from rfl, ← EReal.coe_add]
        rw [show ((((min (L + 1) 120 : ℤ) : ℝ) : EReal)) = ((min ((L : ℝ) + 1) 120 : ℝ) : EReal) by push_cast; rfl]
        exact (EReal.coe_strictMono.monotone.map_min).symm
      rw [this, hmin]
      push_cast
      rfl

/-- Two to an integer power, by the exponential to base two. -/
theorem exp2_int (z : ℤ) : Ideal.exp2 (((z : ℤ) : ℝ) : EReal) = pw z := by
  rw [Ideal.exp2_coe]
  unfold pw
  rw [show Real.rpow 2 ((z : ℤ) : ℝ) = (2 : ℝ) ^ ((z : ℤ) : ℝ) from rfl, Real.rpow_intCast]

/-- The reference's scale of a block, -/
theorem ref_scale (f : Fin 32 → EReal) :
    Ideal.exp2 (refE ((Finset.univ.sup fun m => max (f m) (-f m)) * c)) = pw ((blockE f : ℤ) - 126) := by
  rw [refE_eq, ← sup_expo]
  have := exp2_int ((blockE f : ℤ) - 126)
  push_cast at this
  exact this

/-- and its reciprocal. -/
theorem ref_inv (f : Fin 32 → EReal) :
    Ideal.exp2 (0 - refE ((Finset.univ.sup fun m => max (f m) (-f m)) * c)) = pw (126 - (blockE f : ℤ)) := by
  rw [refE_eq, ← sup_expo]
  have := exp2_int (126 - (blockE f : ℤ))
  push_cast at this
  rw [← this]
  congr 1
  rw [show (0 : EReal) = ((0 : ℝ) : EReal) from rfl, ← EReal.coe_sub]
  congr 1
  unfold blockE
  ring

/-! ### The kernel's search -/

/-- One step of the search, from exponent `e` by `n`. -/
def nx (a : EReal) (n e : ℕ) : ℕ := if pw (((e + n : ℕ) : ℤ) - 127) ≤ a then e + n else e

/-- The search. -/
def search (a : EReal) : ℕ := nx a 1 (nx a 2 (nx a 4 (nx a 8 (nx a 15 (nx a 31 (nx a 61 (nx a 123 1)))))))

/-- It finds the exponent of every normal magnitude. -/
theorem search_eq (a : EReal) (h : pw (-126) ≤ a) : search a = expo a := by
  have h1 : 1 ≤ expo a := by
    by_contra h2
    exact absurd ((expo_eq_zero a).1 (by omega)) (not_lt.2 h)
  have key : ∀ (n e R : ℕ), 0 < n → 1 ≤ e → e ≤ expo a → expo a ≤ e + R → e + n ≤ 246 →
      1 ≤ nx a n e ∧ nx a n e ≤ expo a ∧ expo a ≤ nx a n e + max (n - 1) (R - n) ∧ nx a n e ≤ e + n := by
    intro n e R h0 he h1 h2 h3
    have k := le_expo a (e + n) (by omega) h3
    unfold nx
    split_ifs with h
    · have := k.2 h
      refine ⟨by omega, this, by omega, by omega⟩
    · have := k.not.2 h
      refine ⟨he, h1, by omega, by omega⟩
  have hl := expo_le a
  obtain ⟨a1, b1, c1, d1⟩ := key 123 1 245 (by omega) le_rfl h1 (by omega) (by omega)
  obtain ⟨a2, b2, c2, d2⟩ := key 61 _ 122 (by omega) a1 b1 (by omega) (by omega)
  obtain ⟨a3, b3, c3, d3⟩ := key 31 _ 61 (by omega) a2 b2 (by omega) (by omega)
  obtain ⟨a4, b4, c4, d4⟩ := key 15 _ 30 (by omega) a3 b3 (by omega) (by omega)
  obtain ⟨a5, b5, c5, d5⟩ := key 8 _ 15 (by omega) a4 b4 (by omega) (by omega)
  obtain ⟨a6, b6, c6, d6⟩ := key 4 _ 7 (by omega) a5 b5 (by omega) (by omega)
  obtain ⟨a7, b7, c7, d7⟩ := key 2 _ 3 (by omega) a6 b6 (by omega) (by omega)
  obtain ⟨a8, b8, c8, d8⟩ := key 1 _ 1 (by omega) a7 b7 (by omega) (by omega)
  unfold search
  omega

/-! ### The results -/

/-- The exact GELU, with the constants' float32 values. -/
def gelu (v : EReal) : EReal :=
  Ideal.ofBits .f32 0x3F000000#32 * v * (1 + Ideal.erf (v * Ideal.ofBits .f32 0x3F3504F3#32))

/-- Element `(i, j)` of the activation: the GELU of the product scaled and shifted column by column. -/
def act (a : (⟨2, ![4096, 3072]⟩ : Shape).Idx → EReal) (w : (⟨2, ![3072, 12288]⟩ : Shape).Idx → EReal)
    (ws b : (⟨1, ![12288]⟩ : Shape).Idx → EReal) (i : Fin 4096) (j : Fin 12288) : EReal :=
  gelu ((∑ k : Fin 3072, a (ix2 i k) * w (ix2 k j)) * ws (ix1 j) + b (ix1 j))

/-- Block `B` of row `i`: its exponent. -/
def ex (h : Fin 4096 → Fin 12288 → EReal) (i : Fin 4096) (B : Fin 384) : ℕ :=
  blockE fun m => h i ⟨B.val * 32 + m.val, by omega⟩

/-- A code: the value over its block's scale, clipped. -/
def code (x : EReal) (e : ℕ) : EReal :=
  min (Ideal.ofBits .f32 0x43E00000#32) (max (Ideal.ofBits .f32 0xC3E00000#32) (x * pw (126 - e)))

/-- The codes, -/
def codes (h : Fin 4096 → Fin 12288 → EReal) (y : (⟨2, ![4096, 12288]⟩ : Shape).Idx) : EReal :=
  code (h (y 0) (y 1)) (ex h (y 0) ⟨(y 1).val / 32, by have : (y 1).val < 12288 := (y 1).isLt; omega⟩)

/-- the scales, -/
def scales (h : Fin 4096 → Fin 12288 → EReal) (y : (⟨2, ![4096, 384]⟩ : Shape).Idx) : EReal :=
  pw ((ex h (y 0) (y 1) : ℤ) - 126)

/-- and the dequantised values. -/
def deq (h : Fin 4096 → Fin 12288 → EReal) (y : (⟨2, ![4096, 12288]⟩ : Shape).Idx) : EReal :=
  codes h y * pw ((ex h (y 0) ⟨(y 1).val / 32, by have : (y 1).val < 12288 := (y 1).isLt; omega⟩ : ℤ) - 126)

end Cert.UpMath

end
-- ==== Proof.UpReference.lean ====
/-
  The reference's three result arrays, over the extended reals, are `UpMath`'s codes, scales and dequantised values of its
  arguments: the reference is one block, which is the whole array.
-/
module

public import proofs.«01_k».proof.Proof.Gen.UpRefIdeal.Frame
public import proofs.«01_k».proof.Proof.UpMath
public import Idealize.ShloMosaic.Lib.Pipeline.ValueKit
public import Idealize.ShloMosaic.Lib.Pointwise
public import Idealize.ShloMosaic.Lib.Claim

@[expose] public section

set_option maxRecDepth 16384

noncomputable section

namespace Cert.UpRefIdeal.RefValue

open Cert.UpRefIdeal Cert.UpRefIdeal.Gen Cert.UpMath
open Idealize.ShloMosaic Idealize.ShloMosaic.TcCoe Idealize.SL.Sem
open Idealize.ShloMosaic.Pipeline (Dat)

/-! ### The reference's layout operations -/

theorem split_apply {α : Type} (u : S4096x12288.Idx → α) (i : Fin 4096) (b : Fin 384) (x : Fin 32) :
    shapeCast S4096x384x32 u shapeCasts_S4096x12288_S4096x384x32 (ix3 i b x) = u (ix2 i (⟨b.val * 32 + x.val, by omega⟩ : Fin 12288)) := by
  pointwise

theorem join_apply {α : Type} (u : S4096x384x32.Idx → α) (i : Fin 4096) (j : Fin 12288) :
    shapeCast S4096x12288 u shapeCasts_S4096x384x32_S4096x12288 (ix2 i j)
      = u (ix3 i (⟨j.val / 32, by omega⟩ : Fin 384) (⟨j.val % 32, by omega⟩ : Fin 32)) := by
  pointwise

theorem spread_apply {α : Type} (u : S4096x384.Idx → α) (i : Fin 4096) (b : Fin 384) (x : Fin 32) :
    broadcastTo S4096x384x32 (shapeCast S4096x384x1 u shapeCasts_S4096x384_S4096x384x1) broadcasts_S4096x384x1_S4096x384x32 (ix3 i b x)
      = u (ix2 i b) := by
  pointwise

/-- The maximum over a block, from minus infinity. -/
theorem max_apply (u : FVec Ideal S4096x384x32 .f32) (i : Fin 4096) (b : Fin 384) :
    multiReduction .maximumf [2] S4096x384 u 0xFF800000#32 reduces_S4096x384x32_S4096x384 (.inl rfl) rfl (ix2 i b)
      = Finset.univ.sup fun x : Fin 32 => u (ix3 i b x) := by
  have h : multiReduction .maximumf [2] S4096x384 u 0xFF800000#32 reduces_S4096x384x32_S4096x384 (.inl rfl) rfl (ix2 i b)
      = Finset.fold max (Ideal.ofBits .f32 0xFF800000#32) (fun x : Fin 32 => u (ix3 i b x)) Finset.univ := by
    pointwise
  have hb : Ideal.ofBits .f32 0xFF800000#32 = ⊥ := by simp [Ideal.ofBits, Ideal.ieee]
  rw [h, hb]
  rfl

theorem row_apply (u : Vec Ideal S1x12288 .f32) (i : Fin 4096) (j : Fin 12288) :
    broadcastTo S4096x12288 (shapeCast S1x12288 u shapeCasts_S1x12288_S1x12288) broadcasts_S1x12288_S4096x12288 (ix2 i j)
      = u (ix2 (0 : Fin 1) j) := by
  pointwise

theorem matmul_apply (v0 : FVec Ideal S4096x3072 .bf16) (v1 : FVec Ideal S3072x12288 .bf16) (i : Fin 4096) (j : Fin 12288) :
    matmul dot_S4096x3072_S3072x12288_S4096x12288_1_0_0_1_n_n none v0 v1 (constant S4096x12288 .f32 0x00000000#32 : FVec Ideal S4096x12288 .f32) (ix2 i j)
      = ∑ k : Fin 3072, v0 (ix2 i k) * v1 (ix2 k j) := by
  pointwise

/-! ### The payloads -/

/-- The reference's activation, from its operands with the vectors as one row. -/
def hval (v0 : Vec Ideal S4096x3072 .bf16) (v1 : Vec Ideal S3072x12288 .fp8e4m3) (v4 v8 : Vec Ideal S1x12288 .f32) (i : Fin 4096) (j : Fin 12288) : EReal :=
  gelu ((∑ k : Fin 3072, v0 (ix2 i k) * v1 (ix2 k j)) * v4 (ix2 (0 : Fin 1) j) + v8 (ix2 (0 : Fin 1) j))

variable (v0 : Vec Ideal S4096x3072 .bf16) (v1 : Vec Ideal S3072x12288 .fp8e4m3) (v4 v8 : Vec Ideal S1x12288 .f32)

/-- The GELU as the reference spells it. -/
theorem gelu_spelt (v : FVec Ideal S4096x12288 .f32) (y : S4096x12288.Idx) :
    mulf (mulf (broadcast S4096x12288 (Scalar.ofBits .f32 0x3F000000#32)) v)
      (addf (broadcast S4096x12288 (Scalar.ofBits .f32 0x3F800000#32)) (erf (mulf v (broadcast S4096x12288 (Scalar.ofBits .f32 0x3F3504F3#32))))) y
      = gelu (v y) := by
  have h1 : Ideal.ofBits .f32 0x3F800000#32 = 1 := by
    rw [show Ideal.ofBits .f32 0x3F800000#32 = pw (((127 : Fin 255).val : ℤ) - 127) from ofBits_f32 (127 : Fin 255) (by decide)]
    norm_num [pw]
  unfold gelu
  rw [← h1]
  rfl

theorem pay4_apply (i : Fin 4096) (b : Fin 384) (x : Fin 32) :
    k0_pay4 v0 v1 v4 v8 (ix3 i b x) = hval v0 v1 v4 v8 i ⟨b.val * 32 + x.val, by omega⟩ := by
  unfold k0_pay4
  rw [split_apply, gelu_spelt]
  unfold hval
  congr 1
  have e : ∀ (p q r : FVec Ideal S4096x12288 .f32) (y : S4096x12288.Idx), addf (mulf p q) r y = p y * q y + r y := fun _ _ _ _ => rfl
  rw [e, row_apply, row_apply, matmul_apply]
  rfl

/-- The exponent, of any block maximum. -/
theorem exp_spelt (u : FVec Ideal S4096x384 .f32) (y : S4096x384.Idx) :
    select (cmpf .olt (mulf u (broadcast S4096x384 (Scalar.ofBits .f32 0x3B124925#32))) (broadcast S4096x384 (Scalar.ofBits .f32 0x00800000#32)))
      (broadcast S4096x384 (Scalar.ofBits .f32 0x00000000#32))
      (minimumf (addf (floor (divf (log (mulf u (broadcast S4096x384 (Scalar.ofBits .f32 0x3B124925#32)))) (log (broadcast S4096x384 (Scalar.ofBits .f32 0x40000000#32)))))
        (broadcast S4096x384 (Scalar.ofBits .f32 0x3F800000#32))) (broadcast S4096x384 (Scalar.ofBits .f32 0x42F00000#32))) y
      = refE (u y * c) := by
  have h1 : Ideal.ofBits .f32 0x3F800000#32 = 1 := by
    rw [show Ideal.ofBits .f32 0x3F800000#32 = pw (((127 : Fin 255).val : ℤ) - 127) from ofBits_f32 (127 : Fin 255) (by decide)]
    norm_num [pw]
  have h2 : Ideal.ofBits .f32 0x40000000#32 = pw 1 := ofBits_f32 (128 : Fin 255) (by decide)
  have h3 : Ideal.ofBits .f32 0x00800000#32 = pw (-126) := ofBits_f32 (1 : Fin 255) (by decide)
  have h4 : Ideal.ofBits .f32 0x00000000#32 = 0 := by simp [Ideal.ofBits, Ideal.ieee]
  have h5 : Ideal.ofBits .f32 0x42F00000#32 = ((120 : ℝ) : EReal) := by
    simp [Ideal.ofBits, Ideal.ieee, -EReal.coe_mul]; norm_num
  have e : (select (cmpf .olt (mulf u (broadcast S4096x384 (Scalar.ofBits .f32 0x3B124925#32))) (broadcast S4096x384 (Scalar.ofBits .f32 0x00800000#32)))
      (broadcast S4096x384 (Scalar.ofBits .f32 0x00000000#32))
      (minimumf (addf (floor (divf (log (mulf u (broadcast S4096x384 (Scalar.ofBits .f32 0x3B124925#32)))) (log (broadcast S4096x384 (Scalar.ofBits .f32 0x40000000#32)))))
        (broadcast S4096x384 (Scalar.ofBits .f32 0x3F800000#32))) (broadcast S4096x384 (Scalar.ofBits .f32 0x42F00000#32))) : FVec Ideal S4096x384 .f32) y
      = Scalar.select (BitVec.ofBool (decide (u y * c < Ideal.ofBits .f32 0x00800000#32))) (Ideal.ofBits .f32 0x00000000#32)
        (min (Ideal.liftRound Int.floor (Ideal.div (Ideal.log (u y * c)) (Ideal.log (Ideal.ofBits .f32 0x40000000#32))) + Ideal.ofBits .f32 0x3F800000#32)
          (Ideal.ofBits .f32 0x42F00000#32)) := rfl
  rw [e, h1, h2, h3, h4, h5]
  unfold refE
  by_cases h : u y * c < pw (-126)
  · rw [decide_eq_true h, if_pos h]; rfl
  · rw [decide_eq_false h, if_neg h]; rfl

theorem pay5_apply (i : Fin 4096) (b : Fin 384) :
    k0_pay5 v0 v1 v4 v8 (ix2 i b) = refE ((Finset.univ.sup fun x : Fin 32 =>
      max (hval v0 v1 v4 v8 i ⟨b.val * 32 + x.val, by omega⟩) (-hval v0 v1 v4 v8 i ⟨b.val * 32 + x.val, by omega⟩)) * c) := by
  unfold k0_pay5
  rw [exp_spelt, max_apply]
  congr 2
  refine Finset.sup_congr rfl fun x _ => ?_
  have e : ∀ (p : FVec Ideal S4096x384x32 .f32) (y : S4096x384x32.Idx), absf p y = max (p y) (-(p y)) := fun _ _ => rfl
  rw [e, pay4_apply]

/-- The scale, -/
theorem pay6_apply (i : Fin 4096) (b : Fin 384) : k0_pay6 v0 v1 v4 v8 (ix2 i b) = pw ((ex (hval v0 v1 v4 v8) i b : ℤ) - 126) := by
  have e : ∀ (p : FVec Ideal S4096x384 .f32) (y : S4096x384.Idx), exp2 p y = Ideal.exp2 (p y) := fun _ _ => rfl
  unfold k0_pay6
  rw [e, pay5_apply]
  exact ref_scale fun x : Fin 32 => hval v0 v1 v4 v8 i ⟨b.val * 32 + x.val, by omega⟩

theorem clip_spelt (u w : FVec Ideal S4096x384x32 .f32) (y : S4096x384x32.Idx) :
    truncf .fp8e4m3 (minimumf (broadcast S4096x384x32 (Scalar.ofBits .f32 0x43E00000#32)) (maximumf (broadcast S4096x384x32 (Scalar.ofBits .f32 0xC3E00000#32))
      (mulf u w))) bitsLt_fp8e4m3_f32 y
      = min (Ideal.ofBits .f32 0x43E00000#32) (max (Ideal.ofBits .f32 0xC3E00000#32) (u y * w y)) := rfl

theorem inv_spelt (u : FVec Ideal S4096x384 .f32) (y : S4096x384.Idx) : exp2 (subf (k0_pay7 (F := Ideal)) u) y = Ideal.exp2 (0 - u y) := by
  have h4 : Ideal.ofBits .f32 0x00000000#32 = 0 := by simp [Ideal.ofBits, Ideal.ieee]
  have e : exp2 (subf (k0_pay7 (F := Ideal)) u) y = Ideal.exp2 (Ideal.ofBits .f32 0x00000000#32 - u y) := rfl
  rw [e, h4]

/-- the code, -/
theorem pay1_apply (i : Fin 4096) (b : Fin 384) (x : Fin 32) :
    k0_pay1 (k0_pay4 v0 v1 v4 v8) (k0_pay5 v0 v1 v4 v8) k0_pay7 (ix3 i b x)
      = code (hval v0 v1 v4 v8 i ⟨b.val * 32 + x.val, by omega⟩) (ex (hval v0 v1 v4 v8) i b) := by
  unfold k0_pay1
  rw [clip_spelt, spread_apply, inv_spelt, pay5_apply, pay4_apply, code]
  rw [ref_inv fun x : Fin 32 => hval v0 v1 v4 v8 i ⟨b.val * 32 + x.val, by omega⟩]
  rfl

theorem pay2_apply (i : Fin 4096) (j : Fin 12288) :
    k0_pay2 (k0_pay4 v0 v1 v4 v8) (k0_pay5 v0 v1 v4 v8) k0_pay7 (ix2 i j) = codes (hval v0 v1 v4 v8) (ix2 i j) := by
  unfold k0_pay2
  rw [join_apply, pay1_apply, show (⟨j.val / 32 * 32 + j.val % 32, by omega⟩ : Fin 12288) = j from Fin.ext (by show j.val / 32 * 32 + j.val % 32 = j.val; omega)]
  rfl

theorem deq_spelt (u : FVec Ideal S4096x384x32 .fp8e4m3) (w : FVec Ideal S4096x384x32 .bf16) (y : S4096x384x32.Idx) :
    mulf (extf .bf16 u bitsLt_fp8e4m3_bf16) w y = u y * w y := rfl

theorem trunc_spelt (u : FVec Ideal S4096x384 .f32) (y : S4096x384.Idx) : truncf .bf16 u bitsLt_bf16_f32 y = u y := rfl

/-- and the dequantised value. -/
theorem pay3_apply (i : Fin 4096) (j : Fin 12288) :
    k0_pay3 (k0_pay4 v0 v1 v4 v8) (k0_pay5 v0 v1 v4 v8) (k0_pay6 v0 v1 v4 v8) k0_pay7 (ix2 i j) = deq (hval v0 v1 v4 v8) (ix2 i j) := by
  have h := pay2_apply v0 v1 v4 v8 i j
  unfold k0_pay2 at h
  rw [join_apply] at h
  unfold k0_pay3
  rw [join_apply, deq_spelt, spread_apply, trunc_spelt, pay6_apply, h]
  rfl

theorem eta2 {a b : ℕ} (y : (⟨2, ![a, b]⟩ : Shape).Idx) : y = ix2 (y 0 : Fin a) (y 1 : Fin b) := by
  funext k
  fin_cases k <;> rfl

theorem zero2 : (![0, 0] : Fin 2 → ℕ) = fun _ => 0 := by funext a; fin_cases a <;> rfl

/-- What the body leaves in its three result buffers. -/
theorem out4_eq (x0 : Vec Ideal S4096x3072 .bf16) (x1 : Vec Ideal S3072x12288 .fp8e4m3) (x2 x3 : Vec Ideal S1x12288 .f32) :
    out0_4 x0 x1 x2 x3 = codes (hval (View.ld x0 r0_0) (View.ld x1 r0_1) (View.ld x2 r0_2) (View.ld x3 r0_2)) := by
  unfold out0_4 k0_pay8 k0_pay9 k0_pay11
  rw [View.canon_unit_zero zero2]
  funext y
  rw [eta2 y]
  exact pay2_apply _ _ _ _ _ _

theorem out5_eq (x0 : Vec Ideal S4096x3072 .bf16) (x1 : Vec Ideal S3072x12288 .fp8e4m3) (x2 x3 : Vec Ideal S1x12288 .f32) :
    out0_5 x0 x1 x2 x3 = scales (hval (View.ld x0 r0_0) (View.ld x1 r0_1) (View.ld x2 r0_2) (View.ld x3 r0_2)) := by
  unfold out0_5 k0_pay10
  rw [View.canon_unit_zero zero2]
  funext y
  rw [eta2 y]
  exact pay6_apply _ _ _ _ _ _

theorem out6_eq (x0 : Vec Ideal S4096x3072 .bf16) (x1 : Vec Ideal S3072x12288 .fp8e4m3) (x2 x3 : Vec Ideal S1x12288 .f32) :
    out0_6 x0 x1 x2 x3 = deq (hval (View.ld x0 r0_0) (View.ld x1 r0_1) (View.ld x2 r0_2) (View.ld x3 r0_2)) := by
  unfold out0_6 k0_pay8 k0_pay9 k0_pay10 k0_pay11
  rw [View.canon_unit_zero zero2]
  funext y
  rw [eta2 y]
  exact pay3_apply _ _ _ _ _ _

/-! ### The arrays -/

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The activation of device `c`'s argument arrays. -/
def H (c : Dev nD) : Fin 4096 → Fin 12288 → EReal :=
  act (m ((c : Thread nD τ).loc main_arg0)) (m ((c : Thread nD τ).loc main_arg1)) (m ((c : Thread nD τ).loc main_arg2))
    (m ((c : Thread nD τ).loc main_arg3))

theorem hval_eq (c : Dev nD) (t : Fin cfg0.N) :
    hval (View.ld (iblk m c 0 t) r0_0) (View.ld (iblk m c 1 t) r0_1) (View.ld (iblk m c 2 t) r0_2) (View.ld (iblk m c 3 t) r0_2) = H m c := by
  funext i j
  unfold hval H act
  pointwise
  blk_point [iblk, V, idx t]

theorem after4 (c : Dev nD) (t : Fin cfg0.N) : (dats m 0 c).after 4 t = codes (H m c) :=
  (after0_4 m c t).trans ((out4_eq _ _ _ _).trans (congrArg codes (hval_eq m c t)))

theorem after5 (c : Dev nD) (t : Fin cfg0.N) : (dats m 0 c).after 5 t = scales (H m c) :=
  (after0_5 m c t).trans ((out5_eq _ _ _ _).trans (congrArg scales (hval_eq m c t)))

theorem after6 (c : Dev nD) (t : Fin cfg0.N) : (dats m 0 c).after 6 t = deq (H m c) :=
  (after0_6 m c t).trans ((out6_eq _ _ _ _).trans (congrArg deq (hval_eq m c t)))

/-- The codes after the run, -/
theorem final4 (c : Dev nD) : (dats m 0 c).arrAt 4 cfg0.N = (codes (H m c) : Buf (Elt Ideal) ((c : Thread nD τ).loc main_v2_0)) := by
  refine (dats m 0 c).arrAt_eq_of_covers 4 _ (by decide +kernel) fun t hf y => ?_
  blk_simp
  rw [after4 m c t]
  generalize codes (H m c) = Q
  blk_point [idx t]

/-- the scales, -/
theorem final5 (c : Dev nD) : (dats m 0 c).arrAt 5 cfg0.N = (scales (H m c) : Buf (Elt Ideal) ((c : Thread nD τ).loc main_v2_1)) := by
  refine (dats m 0 c).arrAt_eq_of_covers 5 _ (by decide +kernel) fun t hf y => ?_
  blk_simp
  rw [after5 m c t]
  generalize scales (H m c) = Q
  blk_point [idx t]

/-- and the dequantised values. -/
theorem final6 (c : Dev nD) : (dats m 0 c).arrAt 6 cfg0.N = (deq (H m c) : Buf (Elt Ideal) ((c : Thread nD τ).loc main_v2_2)) := by
  refine (dats m 0 c).arrAt_eq_of_covers 6 _ (by decide +kernel) fun t hf y => ?_
  blk_simp
  rw [after6 m c t]
  generalize deq (H m c) = Q
  blk_point [idx t]

end Cert.UpRefIdeal.RefValue

end
-- ==== Proof.UpTile.lean ====
/-
  What one trip of the first call's epilogue computes on its 32 rows, written once: the GELU of a 32x128 tile, the exponent
  word of each of its elements, the maximum of the words over each block of 32 columns (a tournament between the eight
  tiles' lanes), the codes, the dequantised values and the scales laid over the lanes. The program spells the exponent
  words, the tournament's steps and the codes out once per tile.
-/
module

public import proofs.«01_k».proof.Proof.Gen.UpIdeal.Skeleton

@[expose] public section

noncomputable section

namespace Cert.UpIdeal.Tile

open Cert.UpIdeal Cert.UpIdeal.Gen
open Idealize.ShloMosaic

variable {F : FTy → Type} [FloatOps F]

/-- The GELU of an accumulator tile scaled and shifted column by column. -/
def gelu (x : Vec F S32x128 .f32) (ws b : Vec F S1x128 .f32) : FVec F S32x128 .f32 :=
  let v := addf (mulf x (broadcastTo S32x128 (shapeCast S1x128 ws shapeCasts_S1x128_S1x128) broadcasts_S1x128_S32x128))
    (broadcastTo S32x128 (shapeCast S1x128 b shapeCasts_S1x128_S1x128) broadcasts_S1x128_S32x128)
  mulf (mulf (broadcast S32x128 (Scalar.ofBits .f32 0x3F000000#32)) v)
    (addf (broadcast S32x128 (Scalar.ofBits .f32 0x3F800000#32))
      (erf (mulf v (broadcast S32x128 (Scalar.ofBits .f32 0x3F3504F3#32)))))

/-- The magnitude whose exponent is sought. -/
def mag (h : FVec F S32x128 .f32) : FVec F S32x128 .f32 :=
  absf (mulf h (broadcast S32x128 (Scalar.ofBits .f32 0x3B124925#32)))

/-- The least normal power of two, where the search begins. -/
def base : FVec F S32x128 .f32 := broadcast S32x128 (Scalar.ofBits .f32 0x00800000#32)

/-- Whether the search goes up by the factor with bits `s`. -/
def up (a p : FVec F S32x128 .f32) (s : BitVec 32) : IVec S32x128 1 :=
  cmpf .oge a (mulf p (broadcast S32x128 (Scalar.ofBits .f32 s)))

/-- The power of two after the step, -/
def stepP (a p : FVec F S32x128 .f32) (s : BitVec 32) : FVec F S32x128 .f32 :=
  select (up a p s) (mulf p (broadcast S32x128 (Scalar.ofBits .f32 s))) p

/-- and its exponent. -/
def stepE (a p : FVec F S32x128 .f32) (e : IVec S32x128 32) (s n : BitVec 32) : IVec S32x128 32 :=
  select (up a p s) (addi e (broadcast S32x128 n)) e

def p1 (h : FVec F S32x128 .f32) : FVec F S32x128 .f32 := stepP (mag h) base 0x7D000000#32
def p2 (h : FVec F S32x128 .f32) : FVec F S32x128 .f32 := stepP (mag h) (p1 h) 0x5E000000#32
def p3 (h : FVec F S32x128 .f32) : FVec F S32x128 .f32 := stepP (mag h) (p2 h) 0x4F000000#32
def p4 (h : FVec F S32x128 .f32) : FVec F S32x128 .f32 := stepP (mag h) (p3 h) 0x47000000#32
def p5 (h : FVec F S32x128 .f32) : FVec F S32x128 .f32 := stepP (mag h) (p4 h) 0x43800000#32
def p6 (h : FVec F S32x128 .f32) : FVec F S32x128 .f32 := stepP (mag h) (p5 h) 0x41800000#32
def p7 (h : FVec F S32x128 .f32) : FVec F S32x128 .f32 := stepP (mag h) (p6 h) 0x40800000#32
def e1 (h : FVec F S32x128 .f32) : IVec S32x128 32 := stepE (mag h) base (broadcast S32x128 1#32) 0x7D000000#32 123#32
def e2 (h : FVec F S32x128 .f32) : IVec S32x128 32 := stepE (mag h) (p1 h) (e1 h) 0x5E000000#32 61#32
def e3 (h : FVec F S32x128 .f32) : IVec S32x128 32 := stepE (mag h) (p2 h) (e2 h) 0x4F000000#32 31#32
def e4 (h : FVec F S32x128 .f32) : IVec S32x128 32 := stepE (mag h) (p3 h) (e3 h) 0x47000000#32 15#32
def e5 (h : FVec F S32x128 .f32) : IVec S32x128 32 := stepE (mag h) (p4 h) (e4 h) 0x43800000#32 8#32
def e6 (h : FVec F S32x128 .f32) : IVec S32x128 32 := stepE (mag h) (p5 h) (e5 h) 0x41800000#32 4#32
def e7 (h : FVec F S32x128 .f32) : IVec S32x128 32 := stepE (mag h) (p6 h) (e6 h) 0x40800000#32 2#32
def e8 (h : FVec F S32x128 .f32) : IVec S32x128 32 := stepE (mag h) (p7 h) (e7 h) 0x40000000#32 1#32

/-- The exponent, zero below the least normal number, moved to a bfloat16's exponent field. -/
def half (h : FVec F S32x128 .f32) : IVec S32x128 16 :=
  trunci 16 (shli (select (cmpf .oge (mag h) base) (e8 h) (broadcast S32x128 0#32)) (broadcast S32x128 7#32)) natLt_16_32

/-- The 16-bit values two rows to a 32-bit word, -/
def pack (v : IVec S32x128 16) : IVec S16x128 32 := bitcast S16x128 32 v bitcasts_S32x128_w16_S16x128_w32

/-- and back. -/
def unpack (v : IVec S16x128 32) : IVec S32x128 16 := bitcast S32x128 16 v bitcasts_S16x128_w32_S32x128_w16

/-- The lane number of each element. -/
def lane : IVec S16x128 32 := iota .tc S16x128 32 [1] iota_S16x128_d1_w32

/-- The lanes an index tensor names, taken within each row. -/
def gather (w idx : IVec S16x128 32) : IVec S16x128 32 :=
  dynamicGather 1 w (shapeCast S16x128 (shapeCast S16x128x1
    (select (cmpi .slt idx (broadcast S16x128 0#32)) (addi idx (broadcast S16x128 128#32)) idx)
    shapeCasts_S16x128_S16x128x1) shapeCasts_S16x128x1_S16x128)

/-- The maximum of two word tensors, 16 bits by 16 bits. -/
def maxWords (a b : IVec S16x128 32) : IVec S16x128 32 := pack (maxui (unpack a) (unpack b))

/-- Whether bit `s` of the lane number is set. -/
def odd (s : BitVec 32) : IVec S16x128 1 := cmpi .ne (andi lane (broadcast S16x128 s)) (broadcast S16x128 0#32)

/-- The lane across bit `s`. -/
def across (s : BitVec 32) : IVec S16x128 32 := xori lane (broadcast S16x128 s)

/-- Two tensors met across bit `s`: the lanes with the bit clear keep the first, those with it set the second. -/
def meet (a b : IVec S16x128 32) (s : BitVec 32) : IVec S16x128 32 :=
  maxWords (select (odd s) b a) (gather (select (odd s) a b) (across s))

/-- One tensor met with itself across bit `s`. -/
def fold (a : IVec S16x128 32) (s : BitVec 32) : IVec S16x128 32 := maxWords a (gather a (across s))

/-- The tournament: lane `l` of the result is the maximum over its block of 32 lanes of tile `l % 8`. -/
def tourney (w0 w1 w2 w3 w4 w5 w6 w7 : IVec S16x128 32) : IVec S16x128 32 :=
  fold (fold (meet (meet (meet w0 w1 1#32) (meet w2 w3 1#32) 2#32) (meet (meet w4 w5 1#32) (meet w6 w7 1#32) 2#32) 4#32) 8#32) 16#32

/-- A zero word in the low half replaced, -/
def fixLow (c : IVec S16x128 32) : IVec S16x128 32 :=
  select (cmpi .eq (andi c (broadcast S16x128 65535#32)) (broadcast S16x128 0#32)) (ori c (broadcast S16x128 16128#32)) c

/-- and in the high half. -/
def fix (c : IVec S16x128 32) : IVec S16x128 32 :=
  select (cmpi .eq (andi c (broadcast S16x128 4294901760#32)) (broadcast S16x128 0#32))
    (ori (fixLow c) (broadcast S16x128 1056964608#32)) (fixLow c)

/-- The words of tile `t`, over its lanes. -/
def word (c : IVec S16x128 32) (t : BitVec 32) : IVec S16x128 32 :=
  gather c (addi (andi lane (broadcast S16x128 4294967264#32)) (broadcast S16x128 t))

/-- The reciprocal scales of a word tensor. -/
def invOf (p : IVec S16x128 32) : FVec F S32x128 .f32 :=
  extf .f32 (bitcastToFloat .bf16 (unpack (subi (broadcast S16x128 2122350208#32) p)) : FVec F S32x128 .bf16) bitsLt_bf16_f32

/-- The scales of a word tensor. -/
def scaleOf (p : IVec S16x128 32) : FVec F S32x128 .bf16 :=
  bitcastToFloat .bf16 (unpack (addi p (broadcast S16x128 8388736#32)))

/-- The codes of a tile. -/
def codes (h : FVec F S32x128 .f32) (p : IVec S16x128 32) : FVec F S32x128 .fp8e4m3 :=
  truncf .fp8e4m3 (minimumf (broadcast S32x128 (Scalar.ofBits .f32 0x43E00000#32))
    (maximumf (broadcast S32x128 (Scalar.ofBits .f32 0xC3E00000#32)) (mulf h (invOf p)))) bitsLt_fp8e4m3_f32

/-- The dequantised values of a tile. -/
def deq (h : FVec F S32x128 .f32) (p : IVec S16x128 32) : FVec F S32x128 .bf16 :=
  mulf (extf .bf16 (codes h p) bitsLt_fp8e4m3_bf16) (scaleOf p)

/-- The lanes of the scale group written before this point of the grid: 32 per column block. -/
def off (j : BitVec 32) : BitVec 32 :=
  let n := Scalar.select (Scalar.cmpi .eq 4#32 0#32) 1#32 4#32
  let r := Scalar.remsi j n
  Scalar.muli (Scalar.select (Scalar.andi (Scalar.xori (Scalar.cmpi .slt r 0#32) (Scalar.cmpi .slt n 0#32))
    (Scalar.cmpi .ne r 0#32)) (Scalar.addi r n) r) 32#32

/-- The lane from which lane `l` of the scale tensor is taken, `off` lanes of the group being already written:
    `k0_pay200`'s index tensor. -/
def scaleIdx (off : BitVec 32) : IVec S16x128 32 :=
  k0_pay200 (k0_pay195 off) (k0_pay196 off) (k0_pay197 off) (k0_pay198 off) k0_pay199

/-- The scales over the lanes, the lanes before `off` as they were. -/
def scales (c : IVec S16x128 32) (off : BitVec 32) (old : Vec F S32x128 .f32) : FVec F S32x128 .f32 :=
  select (cmpi .sge (iota .tc S32x128 32 [1] iota_S32x128_d1_w32) (broadcast S32x128 off))
    (extf .f32 (scaleOf (gather c (scaleIdx off)) : FVec F S32x128 .bf16) bitsLt_bf16_f32)
    (shapeCast S32x128 old shapeCasts_S32x128_S32x128)

end Cert.UpIdeal.Tile

end
-- ==== Proof.UpTrip.lean ====
/-
  The pieces one trip of the first call's epilogue stores, over the tile's own operations: eight pieces of codes, eight of
  dequantised values and one of scales.
-/
module

public import proofs.«01_k».proof.Proof.UpTile
public import proofs.«01_k».proof.Proof.Gen.UpIdeal.Loops

@[expose] public section

set_option maxRecDepth 16384

noncomputable section

namespace Cert.UpIdeal.Tile

open Cert.UpIdeal Cert.UpIdeal.Gen
open Idealize.ShloMosaic Idealize.ShloMosaic.TcCoe

variable {F : FTy → Type} [FloatOps F]

/-- The GELU of tile 0 of trip `k`. -/
def H0 (arg4 : Memref sig .tc .vmem S1x1024 .f32) (arg5 : Memref sig .tc .vmem S1x1024 .f32) (arg9 : Memref sig .tc .vmem S1024x1024 .f32) (X_arg4 : BufTy.Contents (Elt F) arg4.view.ty) (X_arg5 : BufTy.Contents (Elt F) arg5.view.ty) (X_arg9 : BufTy.Contents (Elt F) arg9.view.ty) (k : Fin k0_t1_loop.trips) : FVec F S32x128 .f32 :=
  gelu (arg9.view.readAt (Elt F) (Rect.unit (s := S1024x1024) (k0_off1 k) S32x128.size (k0_off1_inb k)).toLoadRect X_arg9)
    (arg4.view.readAt (Elt F) (Rect.unit (s := S1x1024) ![0, 0] S1x128.size inb_S1x1024_S1x128_0_0).toLoadRect X_arg4)
    (arg5.view.readAt (Elt F) (Rect.unit (s := S1x1024) ![0, 0] S1x128.size inb_S1x1024_S1x128_0_0).toLoadRect X_arg5)

/-- The GELU of tile 1 of trip `k`. -/
def H1 (arg4 : Memref sig .tc .vmem S1x1024 .f32) (arg5 : Memref sig .tc .vmem S1x1024 .f32) (arg9 : Memref sig .tc .vmem S1024x1024 .f32) (X_arg4 : BufTy.Contents (Elt F) arg4.view.ty) (X_arg5 : BufTy.Contents (Elt F) arg5.view.ty) (X_arg9 : BufTy.Contents (Elt F) arg9.view.ty) (k : Fin k0_t1_loop.trips) : FVec F S32x128 .f32 :=
  gelu (arg9.view.readAt (Elt F) (Rect.unit (s := S1024x1024) (k0_off2 k) S32x128.size (k0_off2_inb k)).toLoadRect X_arg9)
    (arg4.view.readAt (Elt F) (Rect.unit (s := S1x1024) ![0, 128] S1x128.size inb_S1x1024_S1x128_0_128).toLoadRect X_arg4)
    (arg5.view.readAt (Elt F) (Rect.unit (s := S1x1024) ![0, 128] S1x128.size inb_S1x1024_S1x128_0_128).toLoadRect X_arg5)

/-- The GELU of tile 2 of trip `k`. -/
def H2 (arg4 : Memref sig .tc .vmem S1x1024 .f32) (arg5 : Memref sig .tc .vmem S1x1024 .f32) (arg9 : Memref sig .tc .vmem S1024x1024 .f32) (X_arg4 : BufTy.Contents (Elt F) arg4.view.ty) (X_arg5 : BufTy.Contents (Elt F) arg5.view.ty) (X_arg9 : BufTy.Contents (Elt F) arg9.view.ty) (k : Fin k0_t1_loop.trips) : FVec F S32x128 .f32 :=
  gelu (arg9.view.readAt (Elt F) (Rect.unit (s := S1024x1024) (k0_off3 k) S32x128.size (k0_off3_inb k)).toLoadRect X_arg9)
    (arg4.view.readAt (Elt F) (Rect.unit (s := S1x1024) ![0, 256] S1x128.size inb_S1x1024_S1x128_0_256).toLoadRect X_arg4)
    (arg5.view.readAt (Elt F) (Rect.unit (s := S1x1024) ![0, 256] S1x128.size inb_S1x1024_S1x128_0_256).toLoadRect X_arg5)

/-- The GELU of tile 3 of trip `k`. -/
def H3 (arg4 : Memref sig .tc .vmem S1x1024 .f32) (arg5 : Memref sig .tc .vmem S1x1024 .f32) (arg9 : Memref sig .tc .vmem S1024x1024 .f32) (X_arg4 : BufTy.Contents (Elt F) arg4.view.ty) (X_arg5 : BufTy.Contents (Elt F) arg5.view.ty) (X_arg9 : BufTy.Contents (Elt F) arg9.view.ty) (k : Fin k0_t1_loop.trips) : FVec F S32x128 .f32 :=
  gelu (arg9.view.readAt (Elt F) (Rect.unit (s := S1024x1024) (k0_off4 k) S32x128.size (k0_off4_inb k)).toLoadRect X_arg9)
    (arg4.view.readAt (Elt F) (Rect.unit (s := S1x1024) ![0, 384] S1x128.size inb_S1x1024_S1x128_0_384).toLoadRect X_arg4)
    (arg5.view.readAt (Elt F) (Rect.unit (s := S1x1024) ![0, 384] S1x128.size inb_S1x1024_S1x128_0_384).toLoadRect X_arg5)

/-- The GELU of tile 4 of trip `k`. -/
def H4 (arg4 : Memref sig .tc .vmem S1x1024 .f32) (arg5 : Memref sig .tc .vmem S1x1024 .f32) (arg9 : Memref sig .tc .vmem S1024x1024 .f32) (X_arg4 : BufTy.Contents (Elt F) arg4.view.ty) (X_arg5 : BufTy.Contents (Elt F) arg5.view.ty) (X_arg9 : BufTy.Contents (Elt F) arg9.view.ty) (k : Fin k0_t1_loop.trips) : FVec F S32x128 .f32 :=
  gelu (arg9.view.readAt (Elt F) (Rect.unit (s := S1024x1024) (k0_off5 k) S32x128.size (k0_off5_inb k)).toLoadRect X_arg9)
    (arg4.view.readAt (Elt F) (Rect.unit (s := S1x1024) ![0, 512] S1x128.size inb_S1x1024_S1x128_0_512).toLoadRect X_arg4)
    (arg5.view.readAt (Elt F) (Rect.unit (s := S1x1024) ![0, 512] S1x128.size inb_S1x1024_S1x128_0_512).toLoadRect X_arg5)

/-- The GELU of tile 5 of trip `k`. -/
def H5 (arg4 : Memref sig .tc .vmem S1x1024 .f32) (arg5 : Memref sig .tc .vmem S1x1024 .f32) (arg9 : Memref sig .tc .vmem S1024x1024 .f32) (X_arg4 : BufTy.Contents (Elt F) arg4.view.ty) (X_arg5 : BufTy.Contents (Elt F) arg5.view.ty) (X_arg9 : BufTy.Contents (Elt F) arg9.view.ty) (k : Fin k0_t1_loop.trips) : FVec F S32x128 .f32 :=
  gelu (arg9.view.readAt (Elt F) (Rect.unit (s := S1024x1024) (k0_off6 k) S32x128.size (k0_off6_inb k)).toLoadRect X_arg9)
    (arg4.view.readAt (Elt F) (Rect.unit (s := S1x1024) ![0, 640] S1x128.size inb_S1x1024_S1x128_0_640).toLoadRect X_arg4)
    (arg5.view.readAt (Elt F) (Rect.unit (s := S1x1024) ![0, 640] S1x128.size inb_S1x1024_S1x128_0_640).toLoadRect X_arg5)

/-- The GELU of tile 6 of trip `k`. -/
def H6 (arg4 : Memref sig .tc .vmem S1x1024 .f32) (arg5 : Memref sig .tc .vmem S1x1024 .f32) (arg9 : Memref sig .tc .vmem S1024x1024 .f32) (X_arg4 : BufTy.Contents (Elt F) arg4.view.ty) (X_arg5 : BufTy.Contents (Elt F) arg5.view.ty) (X_arg9 : BufTy.Contents (Elt F) arg9.view.ty) (k : Fin k0_t1_loop.trips) : FVec F S32x128 .f32 :=
  gelu (arg9.view.readAt (Elt F) (Rect.unit (s := S1024x1024) (k0_off7 k) S32x128.size (k0_off7_inb k)).toLoadRect X_arg9)
    (arg4.view.readAt (Elt F) (Rect.unit (s := S1x1024) ![0, 768] S1x128.size inb_S1x1024_S1x128_0_768).toLoadRect X_arg4)
    (arg5.view.readAt (Elt F) (Rect.unit (s := S1x1024) ![0, 768] S1x128.size inb_S1x1024_S1x128_0_768).toLoadRect X_arg5)

/-- The GELU of tile 7 of trip `k`. -/
def H7 (arg4 : Memref sig .tc .vmem S1x1024 .f32) (arg5 : Memref sig .tc .vmem S1x1024 .f32) (arg9 : Memref sig .tc .vmem S1024x1024 .f32) (X_arg4 : BufTy.Contents (Elt F) arg4.view.ty) (X_arg5 : BufTy.Contents (Elt F) arg5.view.ty) (X_arg9 : BufTy.Contents (Elt F) arg9.view.ty) (k : Fin k0_t1_loop.trips) : FVec F S32x128 .f32 :=
  gelu (arg9.view.readAt (Elt F) (Rect.unit (s := S1024x1024) (k0_off8 k) S32x128.size (k0_off8_inb k)).toLoadRect X_arg9)
    (arg4.view.readAt (Elt F) (Rect.unit (s := S1x1024) ![0, 896] S1x128.size inb_S1x1024_S1x128_0_896).toLoadRect X_arg4)
    (arg5.view.readAt (Elt F) (Rect.unit (s := S1x1024) ![0, 896] S1x128.size inb_S1x1024_S1x128_0_896).toLoadRect X_arg5)

/-- The words of trip `k`'s blocks, zeros replaced. -/
def C (arg4 : Memref sig .tc .vmem S1x1024 .f32) (arg5 : Memref sig .tc .vmem S1x1024 .f32) (arg9 : Memref sig .tc .vmem S1024x1024 .f32) (X_arg4 : BufTy.Contents (Elt F) arg4.view.ty) (X_arg5 : BufTy.Contents (Elt F) arg5.view.ty) (X_arg9 : BufTy.Contents (Elt F) arg9.view.ty) (k : Fin k0_t1_loop.trips) : IVec S16x128 32 :=
  fix (tourney (pack (half (H0 arg4 arg5 arg9 X_arg4 X_arg5 X_arg9 k))) (pack (half (H1 arg4 arg5 arg9 X_arg4 X_arg5 X_arg9 k))) (pack (half (H2 arg4 arg5 arg9 X_arg4 X_arg5 X_arg9 k))) (pack (half (H3 arg4 arg5 arg9 X_arg4 X_arg5 X_arg9 k))) (pack (half (H4 arg4 arg5 arg9 X_arg4 X_arg5 X_arg9 k))) (pack (half (H5 arg4 arg5 arg9 X_arg4 X_arg5 X_arg9 k))) (pack (half (H6 arg4 arg5 arg9 X_arg4 X_arg5 X_arg9 k))) (pack (half (H7 arg4 arg5 arg9 X_arg4 X_arg5 X_arg9 k))))

/-- The codes trip `k` stores. -/
theorem trip_codes (𝒱 : Variants) (c : Dev nD) (bd : Option 𝒱.V) (i : grid0.Coords) (arg2 : Memref sig .tc .vmem S1024x3072 .bf16) (harg2 : arg2.IsWhole) (arg3 : Memref sig .tc .vmem S3072x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .fp8e4m3) (harg6 : arg6.IsWhole) (arg7 : Memref sig .tc .vmem S1024x384 .f32) (harg7 : arg7.IsWhole) (arg8 : Memref sig .tc .vmem S1024x1024 .bf16) (harg8 : arg8.IsWhole) (arg9 : Memref sig .tc .vmem S1024x1024 .f32) (harg9 : arg9.IsWhole) (arg1 : BitVec 32) (X_arg4 : BufTy.Contents (Elt F) arg4.view.ty) (X_arg5 : BufTy.Contents (Elt F) arg5.view.ty) (X_arg9 : BufTy.Contents (Elt F) arg9.view.ty) (k : Fin k0_t1_loop.trips) (f_arg6 : BufTy.Contents (Elt F) arg6.view.ty) (f_arg7 : BufTy.Contents (Elt F) arg7.view.ty) (f_arg8 : BufTy.Contents (Elt F) arg8.view.ty) :
    (trip_k0_t1 (F := F) 𝒱 c bd i arg2 harg2 arg3 harg3 arg4 harg4 arg5 harg5 arg6 harg6 arg7 harg7 arg8 harg8 arg9 harg9 arg1 X_arg4 X_arg5 X_arg9 k).1 f_arg6 f_arg7 f_arg8 =
      [⟨Rect.unit (s := S1024x1024) (k0_off8 k) S32x128.size (k0_off8_inb k), codes (H7 arg4 arg5 arg9 X_arg4 X_arg5 X_arg9 k) (word (C arg4 arg5 arg9 X_arg4 X_arg5 X_arg9 k) 7#32)⟩,
      ⟨Rect.unit (s := S1024x1024) (k0_off7 k) S32x128.size (k0_off7_inb k), codes (H6 arg4 arg5 arg9 X_arg4 X_arg5 X_arg9 k) (word (C arg4 arg5 arg9 X_arg4 X_arg5 X_arg9 k) 6#32)⟩,
      ⟨Rect.unit (s := S1024x1024) (k0_off6 k) S32x128.size (k0_off6_inb k), codes (H5 arg4 arg5 arg9 X_arg4 X_arg5 X_arg9 k) (word (C arg4 arg5 arg9 X_arg4 X_arg5 X_arg9 k) 5#32)⟩,
      ⟨Rect.unit (s := S1024x1024) (k0_off5 k) S32x128.size (k0_off5_inb k), codes (H4 arg4 arg5 arg9 X_arg4 X_arg5 X_arg9 k) (word (C arg4 arg5 arg9 X_arg4 X_arg5 X_arg9 k) 4#32)⟩,
      ⟨Rect.unit (s := S1024x1024) (k0_off4 k) S32x128.size (k0_off4_inb k), codes (H3 arg4 arg5 arg9 X_arg4 X_arg5 X_arg9 k) (word (C arg4 arg5 arg9 X_arg4 X_arg5 X_arg9 k) 3#32)⟩,
      ⟨Rect.unit (s := S1024x1024) (k0_off3 k) S32x128.size (k0_off3_inb k), codes (H2 arg4 arg5 arg9 X_arg4 X_arg5 X_arg9 k) (word (C arg4 arg5 arg9 X_arg4 X_arg5 X_arg9 k) 2#32)⟩,
      ⟨Rect.unit (s := S1024x1024) (k0_off2 k) S32x128.size (k0_off2_inb k), codes (H1 arg4 arg5 arg9 X_arg4 X_arg5 X_arg9 k) (word (C arg4 arg5 arg9 X_arg4 X_arg5 X_arg9 k) 1#32)⟩,
      ⟨Rect.unit (s := S1024x1024) (k0_off1 k) S32x128.size (k0_off1_inb k), codes (H0 arg4 arg5 arg9 X_arg4 X_arg5 X_arg9 k) (word (C arg4 arg5 arg9 X_arg4 X_arg5 X_arg9 k) 0#32)⟩] := by
  unfold trip_k0_t1; dsimp only; rfl

/-- The dequantised values trip `k` stores. -/
theorem trip_deq (𝒱 : Variants) (c : Dev nD) (bd : Option 𝒱.V) (i : grid0.Coords) (arg2 : Memref sig .tc .vmem S1024x3072 .bf16) (harg2 : arg2.IsWhole) (arg3 : Memref sig .tc .vmem S3072x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .fp8e4m3) (harg6 : arg6.IsWhole) (arg7 : Memref sig .tc .vmem S1024x384 .f32) (harg7 : arg7.IsWhole) (arg8 : Memref sig .tc .vmem S1024x1024 .bf16) (harg8 : arg8.IsWhole) (arg9 : Memref sig .tc .vmem S1024x1024 .f32) (harg9 : arg9.IsWhole) (arg1 : BitVec 32) (X_arg4 : BufTy.Contents (Elt F) arg4.view.ty) (X_arg5 : BufTy.Contents (Elt F) arg5.view.ty) (X_arg9 : BufTy.Contents (Elt F) arg9.view.ty) (k : Fin k0_t1_loop.trips) (f_arg6 : BufTy.Contents (Elt F) arg6.view.ty) (f_arg7 : BufTy.Contents (Elt F) arg7.view.ty) (f_arg8 : BufTy.Contents (Elt F) arg8.view.ty) :
    (trip_k0_t1 (F := F) 𝒱 c bd i arg2 harg2 arg3 harg3 arg4 harg4 arg5 harg5 arg6 harg6 arg7 harg7 arg8 harg8 arg9 harg9 arg1 X_arg4 X_arg5 X_arg9 k).2.2.1 f_arg6 f_arg7 f_arg8 =
      [⟨Rect.unit (s := S1024x1024) (k0_off8 k) S32x128.size (k0_off8_inb k), deq (H7 arg4 arg5 arg9 X_arg4 X_arg5 X_arg9 k) (word (C arg4 arg5 arg9 X_arg4 X_arg5 X_arg9 k) 7#32)⟩,
      ⟨Rect.unit (s := S1024x1024) (k0_off7 k) S32x128.size (k0_off7_inb k), deq (H6 arg4 arg5 arg9 X_arg4 X_arg5 X_arg9 k) (word (C arg4 arg5 arg9 X_arg4 X_arg5 X_arg9 k) 6#32)⟩,
      ⟨Rect.unit (s := S1024x1024) (k0_off6 k) S32x128.size (k0_off6_inb k), deq (H5 arg4 arg5 arg9 X_arg4 X_arg5 X_arg9 k) (word (C arg4 arg5 arg9 X_arg4 X_arg5 X_arg9 k) 5#32)⟩,
      ⟨Rect.unit (s := S1024x1024) (k0_off5 k) S32x128.size (k0_off5_inb k), deq (H4 arg4 arg5 arg9 X_arg4 X_arg5 X_arg9 k) (word (C arg4 arg5 arg9 X_arg4 X_arg5 X_arg9 k) 4#32)⟩,
      ⟨Rect.unit (s := S1024x1024) (k0_off4 k) S32x128.size (k0_off4_inb k), deq (H3 arg4 arg5 arg9 X_arg4 X_arg5 X_arg9 k) (word (C arg4 arg5 arg9 X_arg4 X_arg5 X_arg9 k) 3#32)⟩,
      ⟨Rect.unit (s := S1024x1024) (k0_off3 k) S32x128.size (k0_off3_inb k), deq (H2 arg4 arg5 arg9 X_arg4 X_arg5 X_arg9 k) (word (C arg4 arg5 arg9 X_arg4 X_arg5 X_arg9 k) 2#32)⟩,
      ⟨Rect.unit (s := S1024x1024) (k0_off2 k) S32x128.size (k0_off2_inb k), deq (H1 arg4 arg5 arg9 X_arg4 X_arg5 X_arg9 k) (word (C arg4 arg5 arg9 X_arg4 X_arg5 X_arg9 k) 1#32)⟩,
      ⟨Rect.unit (s := S1024x1024) (k0_off1 k) S32x128.size (k0_off1_inb k), deq (H0 arg4 arg5 arg9 X_arg4 X_arg5 X_arg9 k) (word (C arg4 arg5 arg9 X_arg4 X_arg5 X_arg9 k) 0#32)⟩] := by
  unfold trip_k0_t1; dsimp only; rfl

/-- The scales trip `k` stores. -/
theorem trip_scales (𝒱 : Variants) (c : Dev nD) (bd : Option 𝒱.V) (i : grid0.Coords) (arg2 : Memref sig .tc .vmem S1024x3072 .bf16) (harg2 : arg2.IsWhole) (arg3 : Memref sig .tc .vmem S3072x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .fp8e4m3) (harg6 : arg6.IsWhole) (arg7 : Memref sig .tc .vmem S1024x384 .f32) (harg7 : arg7.IsWhole) (arg8 : Memref sig .tc .vmem S1024x1024 .bf16) (harg8 : arg8.IsWhole) (arg9 : Memref sig .tc .vmem S1024x1024 .f32) (harg9 : arg9.IsWhole) (arg1 : BitVec 32) (X_arg4 : BufTy.Contents (Elt F) arg4.view.ty) (X_arg5 : BufTy.Contents (Elt F) arg5.view.ty) (X_arg9 : BufTy.Contents (Elt F) arg9.view.ty) (k : Fin k0_t1_loop.trips) (f_arg6 : BufTy.Contents (Elt F) arg6.view.ty) (f_arg7 : BufTy.Contents (Elt F) arg7.view.ty) (f_arg8 : BufTy.Contents (Elt F) arg8.view.ty) :
    (trip_k0_t1 (F := F) 𝒱 c bd i arg2 harg2 arg3 harg3 arg4 harg4 arg5 harg5 arg6 harg6 arg7 harg7 arg8 harg8 arg9 harg9 arg1 X_arg4 X_arg5 X_arg9 k).2.1 f_arg6 f_arg7 f_arg8 =
      [⟨Rect.unit (s := S1024x384) (k0_off9 i k) S32x128.size (k0_off9_inb i k), scales (C arg4 arg5 arg9 X_arg4 X_arg5 X_arg9 k) (off arg1)
        (arg7.view.readAt (Elt F) (Rect.unit (s := S1024x384) (k0_off9 i k) S32x128.size (k0_off9_inb i k)).toLoadRect f_arg7)⟩] := by
  unfold trip_k0_t1; dsimp only; rfl

end Cert.UpIdeal.Tile

end
-- ==== Proof.UpWords.lean ====
/-
  The epilogue's words, 16-bit half by half: what packing, selecting, gathering and taking the maximum do to the half of
  row `r` and lane `l`.
-/
module

public import proofs.«01_k».proof.Proof.UpTile
public import Idealize.ShloMosaic.Lib.BitcastPair
public import Idealize.ShloMosaic.Lib.Pointwise

@[expose] public section

set_option maxRecDepth 16384

noncomputable section

namespace Cert.UpIdeal.Tile

open Cert.UpIdeal Cert.UpIdeal.Gen
open Idealize.ShloMosaic

/-- The row of words a row of halves lies in. -/
def pr (r : Fin 32) : Fin 16 := ⟨r.val / 2, by omega⟩

/-- The half of a word that row `r` takes. -/
def sel (r : Fin 32) (w : BitVec 32) : BitVec 16 := w.extractLsb' (16 * (r.val % 2)) 16

/-- Row `r` of the halves is the low half of word row `r / 2` when `r` is even, the high half when it is odd. -/
theorem unpack_apply (w : IVec S16x128 32) (r : Fin 32) (l : Fin 128) :
    unpack w (ix2 r l) = sel r (w (ix2 (pr r) l)) := by
  unfold unpack
  rw [bitcast_32_16]
  have hrow : S32x128.row (ix2 r l) = r.val := rfl
  unfold sel
  rw [show bitcasts_S16x128_w32_S32x128_w16.srcIdx (ix2 r l) _ _ = ix2 (pr r) l from
    funext fun a => Fin.ext (by fin_cases a <;> rfl)]
  rfl

/-- The word of row `q` is the halves of rows `2 q` and `2 q + 1`. -/
theorem pack_apply (v : IVec S32x128 16) (q : Fin 16) (l : Fin 128) :
    pack v (ix2 q l) = v (ix2 (⟨2 * q.val + 1, by omega⟩ : Fin 32) l) ++ v (ix2 (⟨2 * q.val, by omega⟩ : Fin 32) l) := by
  unfold pack
  rw [bitcast_16_32]
  congr 1 <;> congr 1 <;> funext a <;> apply Fin.ext <;> fin_cases a <;> rfl

/-- A half taken out of two halves put together. -/
theorem sel_append (r : Fin 32) (a b : BitVec 16) : sel r (a ++ b) = if r.val % 2 = 0 then b else a := by
  unfold sel
  apply BitVec.eq_of_getLsbD_eq
  intro i hi
  rw [BitVec.getLsbD_extractLsb', BitVec.getLsbD_append]
  rcases Nat.mod_two_eq_zero_or_one r.val with h | h
  · simp [h, hi]
  · have h1 : ¬ 16 + i < 16 := by omega
    simp [h, hi]

/-- Unpacking what was packed. -/
theorem unpack_pack (v : IVec S32x128 16) (r : Fin 32) (l : Fin 128) : unpack (pack v) (ix2 r l) = v (ix2 r l) := by
  rw [unpack_apply, pack_apply, sel_append]
  rcases Nat.mod_two_eq_zero_or_one r.val with h | h
  · rw [if_pos h]
    congr 2; apply Fin.ext; show 2 * (r.val / 2) = r.val; omega
  · rw [if_neg (by omega)]
    congr 2; apply Fin.ext; show 2 * (r.val / 2) + 1 = r.val; omega

/-- The lane across bit `s`. -/
def xl (l : Fin 128) (s : ℕ) : Fin 128 := ⟨(l.val ^^^ s) % 128, by omega⟩

/-- Gathering takes the lane named. -/
theorem gather_apply (w idx : IVec S16x128 32) (q : Fin 16) (l n : Fin 128) (h : idx (ix2 q l) = BitVec.ofNat 32 n.val) :
    gather w idx (ix2 q l) = w (ix2 q n) := by
  have hn : ∀ n : Fin 128, (Scalar.select (IntOp.cmpi .slt (BitVec.ofNat 32 n.val) 0#32) (BitVec.ofNat 32 n.val + 128#32)
      (BitVec.ofNat 32 n.val)).toNat % 128 = n.val := by decide +kernel
  unfold gather
  pointwise
  simp only [h]
  congr 1
  funext a
  apply Fin.ext
  fin_cases a
  · rfl
  · exact hn n

/-- The lane number. -/
theorem lane_apply (q : Fin 16) (l : Fin 128) : lane (ix2 q l) = BitVec.ofNat 32 l.val := by
  have h : ∀ l : Fin 128, BitVec.ofNat 32 (0 * 128 + l.val) = BitVec.ofNat 32 l.val := by decide +kernel
  exact h l

/-- The larger of two halves, as numbers. -/
theorem maxui_toNat (a b : BitVec 16) : (IntOp.maxui a b).toNat = max a.toNat b.toNat := by
  unfold IntOp.maxui
  by_cases h : b.toNat < a.toNat
  · rw [if_pos (by rw [BitVec.ult]; exact decide_eq_true h)]; omega
  · rw [if_neg (by rw [BitVec.ult]; simpa using h)]; omega

/-- The maximum, half by half. -/
theorem maxWords_apply (a b : IVec S16x128 32) (r : Fin 32) (l : Fin 128) :
    (unpack (maxWords a b) (ix2 r l)).toNat = max (unpack a (ix2 r l)).toNat (unpack b (ix2 r l)).toNat := by
  unfold maxWords
  rw [unpack_pack]
  exact maxui_toNat _ _

/-- The lanes and their bits, for the five bits of the tournament. -/
theorem bits : ∀ s : Fin 5, ∀ l : Fin 128,
    (BitVec.ofNat 32 l.val ^^^ BitVec.ofNat 32 (2 ^ s.val)) = BitVec.ofNat 32 (xl l (2 ^ s.val)).val
    ∧ IntOp.cmpi .ne (BitVec.ofNat 32 l.val &&& BitVec.ofNat 32 (2 ^ s.val)) 0#32 = BitVec.ofBool (l.val.testBit s.val)
    ∧ IntOp.cmpi .ne (BitVec.ofNat 32 (xl l (2 ^ s.val)).val &&& BitVec.ofNat 32 (2 ^ s.val)) 0#32
      = BitVec.ofBool (!l.val.testBit s.val) := by decide +kernel

/-- A gather across a bit, half by half. -/
theorem across_apply (w : IVec S16x128 32) (s : Fin 5) (q : Fin 16) (l : Fin 128) :
    gather w (across (BitVec.ofNat 32 (2 ^ s.val))) (ix2 q l) = w (ix2 q (xl l (2 ^ s.val))) := by
  refine gather_apply _ _ _ _ _ ?_
  show lane (ix2 q l) ^^^ BitVec.ofNat 32 (2 ^ s.val) = _
  rw [lane_apply]
  exact (bits s l).1

/-- Two tensors met across bit `s`, half by half. -/
theorem meet_apply (a b : IVec S16x128 32) (s : Fin 5) (r : Fin 32) (l : Fin 128) :
    (unpack (meet a b (BitVec.ofNat 32 (2 ^ s.val))) (ix2 r l)).toNat
      = max (unpack (if l.val.testBit s.val then b else a) (ix2 r l)).toNat
          (unpack (if l.val.testBit s.val then b else a) (ix2 r (xl l (2 ^ s.val)))).toNat := by
  unfold meet
  rw [maxWords_apply]
  simp only [unpack_apply, across_apply]
  have e1 : ∀ x y : IVec S16x128 32, select (odd (BitVec.ofNat 32 (2 ^ s.val))) x y (ix2 (pr r) l)
      = (if l.val.testBit s.val then x else y) (ix2 (pr r) l) := by
    intro x y
    show Scalar.select (IntOp.cmpi .ne (lane (ix2 (pr r) l) &&& BitVec.ofNat 32 (2 ^ s.val)) 0#32) _ _ = _
    rw [lane_apply, (bits s l).2.1]
    cases l.val.testBit s.val <;> rfl
  have e2 : ∀ x y : IVec S16x128 32, select (odd (BitVec.ofNat 32 (2 ^ s.val))) x y (ix2 (pr r) (xl l (2 ^ s.val)))
      = (if l.val.testBit s.val then y else x) (ix2 (pr r) (xl l (2 ^ s.val))) := by
    intro x y
    show Scalar.select (IntOp.cmpi .ne (lane (ix2 (pr r) (xl l (2 ^ s.val))) &&& BitVec.ofNat 32 (2 ^ s.val)) 0#32) _ _ = _
    rw [lane_apply, (bits s l).2.2]
    cases l.val.testBit s.val <;> rfl
  rw [e1, e2]

/-- One tensor met with itself across bit `s`, half by half. -/
theorem fold_apply (a : IVec S16x128 32) (s : Fin 5) (r : Fin 32) (l : Fin 128) :
    (unpack (fold a (BitVec.ofNat 32 (2 ^ s.val))) (ix2 r l)).toNat
      = max (unpack a (ix2 r l)).toNat (unpack a (ix2 r (xl l (2 ^ s.val)))).toNat := by
  unfold fold
  rw [maxWords_apply]
  simp only [unpack_apply, across_apply]

/-! ### The tournament -/

/-- `x` is the largest of `V` over the lanes reached from `l` by flipping the bits below `n`. -/
def Best (V : Fin 128 → ℕ) (l : Fin 128) (n x : ℕ) : Prop :=
  (∀ m < n, V (xl l m) ≤ x) ∧ ∃ m < n, V (xl l m) = x

theorem xl_zero : ∀ l : Fin 128, xl l 0 = l := by decide +kernel

theorem xl_xl : ∀ s : Fin 5, ∀ l : Fin 128, ∀ m : Fin (2 ^ s.val), xl (xl l (2 ^ s.val)) m.val = xl l (2 ^ s.val + m.val) := by
  decide +kernel

theorem best_one (V : Fin 128 → ℕ) (l : Fin 128) : Best V l 1 (V l) :=
  ⟨fun m hm => by obtain rfl : m = 0 := by omega
                  rw [xl_zero], 0, by omega, by rw [xl_zero]⟩

/-- Two such maxima met across the next bit. -/
theorem best_step (V : Fin 128 → ℕ) (s : Fin 5) (l : Fin 128) (x y : ℕ) (hx : Best V l (2 ^ s.val) x)
    (hy : Best V (xl l (2 ^ s.val)) (2 ^ s.val) y) : Best V l (2 ^ (s.val + 1)) (max x y) := by
  have e : ∀ m, (h : m < 2 ^ s.val) → xl (xl l (2 ^ s.val)) m = xl l (2 ^ s.val + m) := fun m h => xl_xl s l ⟨m, h⟩
  rw [pow_succ]
  refine ⟨fun m hm => ?_, ?_⟩
  · by_cases h : m < 2 ^ s.val
    · exact le_max_of_le_left (hx.1 m h)
    · have := hy.1 (m - 2 ^ s.val) (by omega)
      rw [e _ (by omega), show 2 ^ s.val + (m - 2 ^ s.val) = m by omega] at this
      exact le_max_of_le_right this
  · rcases le_total x y with h | h
    · obtain ⟨m, hm, h2⟩ := hy.2
      exact ⟨2 ^ s.val + m, by omega, by rw [← e m hm, h2, max_eq_right h]⟩
    · obtain ⟨m, hm, h2⟩ := hx.2
      exact ⟨m, by omega, by rw [h2, max_eq_left h]⟩

/-- The tile of a lane and the bits that choose it. -/
theorem tile_bits : ∀ l : Fin 128, ∀ f : Fin 8 → ℕ,
    (if l.val.testBit 2 then if l.val.testBit 1 then if l.val.testBit 0 then f 7 else f 6 else if l.val.testBit 0 then f 5 else f 4
      else if l.val.testBit 1 then if l.val.testBit 0 then f 3 else f 2 else if l.val.testBit 0 then f 1 else f 0)
      = f ⟨l.val % 8, by omega⟩ := by
  intro l f
  fin_cases l <;> rfl

theorem xl_bits : ∀ l : Fin 128, (xl l 2).val.testBit 0 = l.val.testBit 0 ∧ (xl l 4).val.testBit 0 = l.val.testBit 0
    ∧ (xl l 4).val.testBit 1 = l.val.testBit 1 ∧ (xl l 8).val % 8 = l.val % 8 ∧ (xl l 16).val % 8 = l.val % 8 := by decide +kernel

theorem xl_block : ∀ l : Fin 128, ∀ m : Fin 32, (xl l m.val).val / 32 = l.val / 32 := by decide +kernel

theorem xl_onto : ∀ l : Fin 128, ∀ m : Fin 32, xl l ((32 * (l.val / 32) + m.val) ^^^ l.val) = ⟨32 * (l.val / 32) + m.val, by omega⟩
    ∧ (32 * (l.val / 32) + m.val) ^^^ l.val < 32 := by decide +kernel

/-- A halves tensor of the tile that bit choices name. -/
theorem tourney_best (w : Fin 8 → IVec S16x128 32) (r : Fin 32) (l : Fin 128) :
    Best (fun l' => (unpack (w ⟨l.val % 8, by omega⟩) (ix2 r l')).toNat) l 32
      (unpack (tourney (w 0) (w 1) (w 2) (w 3) (w 4) (w 5) (w 6) (w 7)) (ix2 r l)).toNat := by
  have L1 : ∀ (a b : IVec S16x128 32) (l : Fin 128),
      Best (fun l' => (unpack (if l.val.testBit 0 then b else a) (ix2 r l')).toNat) l 2 (unpack (meet a b 1#32) (ix2 r l)).toNat := by
    intro a b l
    rw [show (unpack (meet a b 1#32) (ix2 r l)).toNat = _ from meet_apply a b 0 r l]
    exact best_step (fun l' => (unpack (if l.val.testBit 0 then b else a) (ix2 r l')).toNat) 0 l _ _ (best_one _ _) (best_one _ _)
  have L2 : ∀ (a b c d : IVec S16x128 32) (l : Fin 128),
      Best (fun l' => (unpack (if l.val.testBit 1 then if l.val.testBit 0 then d else c else if l.val.testBit 0 then b else a)
        (ix2 r l')).toNat) l 4 (unpack (meet (meet a b 1#32) (meet c d 1#32) 2#32) (ix2 r l)).toNat := by
    intro a b c d l
    rw [show (unpack (meet (meet a b 1#32) (meet c d 1#32) 2#32) (ix2 r l)).toNat = _ from meet_apply _ _ 1 r l]
    refine best_step _ 1 l _ _ ?_ ?_
    · by_cases h : l.val.testBit 1 = true
      · simp only [show ((1 : Fin 5).val) = 1 from rfl, h, if_true]; exact L1 c d l
      · simp only [show ((1 : Fin 5).val) = 1 from rfl, h]; exact L1 a b l
    · have hb := (xl_bits l).1
      by_cases h : l.val.testBit 1 = true
      · simp only [show ((1 : Fin 5).val) = 1 from rfl, h, if_true, ← hb]; exact L1 c d (xl l 2)
      · simp only [show ((1 : Fin 5).val) = 1 from rfl, h, ← hb]; exact L1 a b (xl l 2)
  have L3 : ∀ l : Fin 128, Best (fun l' => (unpack (w ⟨l.val % 8, by omega⟩) (ix2 r l')).toNat) l 8
      (unpack (meet (meet (meet (w 0) (w 1) 1#32) (meet (w 2) (w 3) 1#32) 2#32)
        (meet (meet (w 4) (w 5) 1#32) (meet (w 6) (w 7) 1#32) 2#32) 4#32) (ix2 r l)).toNat := by
    intro l
    have e : (fun l' => (unpack (w ⟨l.val % 8, by omega⟩) (ix2 r l')).toNat) = fun l' => (unpack (if l.val.testBit 2 then
        (if l.val.testBit 1 then if l.val.testBit 0 then w 7 else w 6 else if l.val.testBit 0 then w 5 else w 4)
        else (if l.val.testBit 1 then if l.val.testBit 0 then w 3 else w 2 else if l.val.testBit 0 then w 1 else w 0)) (ix2 r l')).toNat := by
      funext l'
      rw [← tile_bits l fun t => (unpack (w t) (ix2 r l')).toNat]
      split_ifs <;> rfl
    rw [e]
    rw [show (unpack (meet (meet (meet (w 0) (w 1) 1#32) (meet (w 2) (w 3) 1#32) 2#32)
        (meet (meet (w 4) (w 5) 1#32) (meet (w 6) (w 7) 1#32) 2#32) 4#32) (ix2 r l)).toNat = _ from meet_apply _ _ 2 r l]
    refine best_step _ 2 l _ _ ?_ ?_
    · by_cases h : l.val.testBit 2 = true
      · simp only [show ((2 : Fin 5).val) = 2 from rfl, h, if_true]; exact L2 _ _ _ _ l
      · simp only [show ((2 : Fin 5).val) = 2 from rfl, h]; exact L2 _ _ _ _ l
    · have hb := (xl_bits l).2.1
      have hb1 := (xl_bits l).2.2.1
      by_cases h : l.val.testBit 2 = true
      · simp only [show ((2 : Fin 5).val) = 2 from rfl, h, if_true, ← hb, ← hb1]; exact L2 _ _ _ _ (xl l 4)
      · simp only [show ((2 : Fin 5).val) = 2 from rfl, h, ← hb, ← hb1]; exact L2 _ _ _ _ (xl l 4)
  have tile_congr : ∀ l l' : Fin 128, l.val % 8 = l'.val % 8 → (⟨l.val % 8, by omega⟩ : Fin 8) = ⟨l'.val % 8, by omega⟩ :=
    fun l l' h => Fin.ext h
  have L4 : ∀ l : Fin 128, Best (fun l' => (unpack (w ⟨l.val % 8, by omega⟩) (ix2 r l')).toNat) l 16
      (unpack (fold (meet (meet (meet (w 0) (w 1) 1#32) (meet (w 2) (w 3) 1#32) 2#32)
        (meet (meet (w 4) (w 5) 1#32) (meet (w 6) (w 7) 1#32) 2#32) 4#32) 8#32) (ix2 r l)).toNat := by
    intro l
    rw [show (unpack (fold _ 8#32) (ix2 r l)).toNat = _ from fold_apply _ 3 r l]
    refine best_step _ 3 l _ _ (L3 l) ?_
    rw [tile_congr l (xl l 8) (xl_bits l).2.2.2.1.symm]
    exact L3 (xl l 8)
  unfold tourney
  rw [show (unpack (fold _ 16#32) (ix2 r l)).toNat = _ from fold_apply _ 4 r l]
  refine best_step _ 4 l _ _ (L4 l) ?_
  rw [tile_congr l (xl l 16) (xl_bits l).2.2.2.2.symm]
  exact L4 (xl l 16)

/-- Lane `l` of the tournament's result is the largest of tile `l % 8`'s halves over the block of 32 lanes that `l` lies in. -/
theorem tourney_apply (w : Fin 8 → IVec S16x128 32) (r : Fin 32) (l : Fin 128) :
    (unpack (tourney (w 0) (w 1) (w 2) (w 3) (w 4) (w 5) (w 6) (w 7)) (ix2 r l)).toNat
      = Finset.univ.sup fun m : Fin 32 =>
          (unpack (w ⟨l.val % 8, by omega⟩) (ix2 r (⟨32 * (l.val / 32) + m.val, by omega⟩ : Fin 128))).toNat := by
  have h := tourney_best w r l
  apply le_antisymm
  · obtain ⟨m, hm, e⟩ := h.2
    rw [← e]
    have hb := xl_block l ⟨m, hm⟩
    simp only at hb
    have := Finset.le_sup (f := fun m : Fin 32 =>
      (unpack (w ⟨l.val % 8, by omega⟩) (ix2 r (⟨32 * (l.val / 32) + m.val, by omega⟩ : Fin 128))).toNat)
      (Finset.mem_univ (⟨(xl l m).val % 32, by omega⟩ : Fin 32))
    simp only at this
    rw [show (⟨32 * (l.val / 32) + (xl l m).val % 32, by omega⟩ : Fin 128) = xl l m from Fin.ext (by
      show 32 * (l.val / 32) + (xl l m).val % 32 = _; omega)] at this
    exact this
  · refine Finset.sup_le fun m _ => ?_
    have := h.1 _ (xl_onto l m).2
    rw [(xl_onto l m).1] at this
    exact this

end Cert.UpIdeal.Tile

end
-- ==== Proof.UpScale.lean ====
/-
  The values of one trip of the first call's epilogue over the extended reals: the exponent words, the reciprocal scales and
  the scales they give, the codes, the dequantised values and the scales over the lanes.
-/
module

public import proofs.«01_k».proof.Proof.UpWords
public import proofs.«01_k».proof.Proof.UpMath

@[expose] public section

set_option maxRecDepth 16384

noncomputable section

namespace Cert.UpIdeal.Tile

open Cert.UpIdeal Cert.UpIdeal.Gen Cert.UpMath
open Idealize.ShloMosaic

/-! ### The exponent words -/

/-- A step of the search at one element. -/
theorem step_apply (a p : FVec Ideal S32x128 .f32) (E : IVec S32x128 32) (s n : BitVec 32) (i : S32x128.Idx) (e k : ℕ)
    (hs : Ideal.ofBits .f32 s = pw k) (hn : n = BitVec.ofNat 32 k) (hp : p i = pw ((e : ℤ) - 127)) (hE : E i = BitVec.ofNat 32 e) :
    stepP a p s i = pw ((nx (a i) k e : ℤ) - 127) ∧ stepE a p E s n i = BitVec.ofNat 32 (nx (a i) k e) := by
  have hm : p i * Ideal.ofBits .f32 s = pw (((e + k : ℕ) : ℤ) - 127) := by
    rw [hp, hs, pw_mul]; congr 1; push_cast; ring
  have hu : up a p s i = BitVec.ofBool (decide (pw (((e + k : ℕ) : ℤ) - 127) ≤ a i)) := by
    rw [← hm]; rfl
  have h1 : stepP a p s i = Scalar.select (up a p s i) (p i * Ideal.ofBits .f32 s) (p i) := rfl
  have h2 : stepE a p E s n i = Scalar.select (up a p s i) (E i + n) (E i) := rfl
  rw [h1, h2, hm, hu, hp, hE, hn]
  unfold nx
  by_cases h : pw (((e + k : ℕ) : ℤ) - 127) ≤ a i
  · rw [decide_eq_true h, if_pos h]
    refine ⟨rfl, ?_⟩
    rw [BitVec.ofNat_add]; rfl
  · rw [decide_eq_false h, if_neg h]
    exact ⟨rfl, rfl⟩

theorem base_apply (i : S32x128.Idx) : (base : FVec Ideal S32x128 .f32) i = pw (((1 : ℕ) : ℤ) - 127) :=
  ofBits_f32 (1 : Fin 255) (by decide)

theorem mag_apply (h : FVec Ideal S32x128 .f32) (i : S32x128.Idx) : mag h i = amag (h i) := abs_mul_c (h i)

/-- The word of an element: its magnitude's exponent, in a bfloat16's exponent field. -/
theorem half_apply (h : FVec Ideal S32x128 .f32) (i : S32x128.Idx) : half h i = BitVec.ofNat 16 (128 * expo (amag (h i))) := by
  obtain ⟨a1, b1⟩ := step_apply (mag h) base (broadcast S32x128 1#32) 0x7D000000#32 123#32 i 1 123
    (ofBits_f32 (250 : Fin 255) (by decide)) rfl (base_apply i) rfl
  obtain ⟨a2, b2⟩ := step_apply (mag h) (p1 h) (e1 h) 0x5E000000#32 61#32 i _ 61 (ofBits_f32 (188 : Fin 255) (by decide)) rfl a1 b1
  obtain ⟨a3, b3⟩ := step_apply (mag h) (p2 h) (e2 h) 0x4F000000#32 31#32 i _ 31 (ofBits_f32 (158 : Fin 255) (by decide)) rfl a2 b2
  obtain ⟨a4, b4⟩ := step_apply (mag h) (p3 h) (e3 h) 0x47000000#32 15#32 i _ 15 (ofBits_f32 (142 : Fin 255) (by decide)) rfl a3 b3
  obtain ⟨a5, b5⟩ := step_apply (mag h) (p4 h) (e4 h) 0x43800000#32 8#32 i _ 8 (ofBits_f32 (135 : Fin 255) (by decide)) rfl a4 b4
  obtain ⟨a6, b6⟩ := step_apply (mag h) (p5 h) (e5 h) 0x41800000#32 4#32 i _ 4 (ofBits_f32 (131 : Fin 255) (by decide)) rfl a5 b5
  obtain ⟨a7, b7⟩ := step_apply (mag h) (p6 h) (e6 h) 0x40800000#32 2#32 i _ 2 (ofBits_f32 (129 : Fin 255) (by decide)) rfl a6 b6
  obtain ⟨a8, b8⟩ := step_apply (mag h) (p7 h) (e7 h) 0x40000000#32 1#32 i _ 1 (ofBits_f32 (128 : Fin 255) (by decide)) rfl a7 b7
  have b9 : e8 h i = BitVec.ofNat 32 (search (mag h i)) := b8
  have hc : cmpf .oge (mag h) base i = BitVec.ofBool (decide (pw (-126) ≤ mag h i)) := by
    rw [show cmpf .oge (mag h) base i = BitVec.ofBool (decide ((base : FVec Ideal S32x128 .f32) i ≤ mag h i)) from rfl, base_apply]
    rfl
  have h1 : half h i = (IntOp.shli .vector (Scalar.select (cmpf .oge (mag h) base i) (e8 h i) 0#32) 7#32).setWidth 16 := rfl
  have hw : ∀ n : Fin 247, (IntOp.shli .vector (BitVec.ofNat 32 n.val) 7#32).setWidth 16 = BitVec.ofNat 16 (128 * n.val) := by decide +kernel
  rw [h1, hc, b9]
  by_cases h : pw (-126) ≤ mag h i
  · rw [decide_eq_true h, search_eq _ h, ← mag_apply]
    exact hw ⟨_, Nat.lt_succ_of_le (expo_le _)⟩
  · rw [decide_eq_false h, ← mag_apply, (expo_eq_zero _).2 (not_le.1 h)]
    rfl

/-! ### Halves of words -/

/-- A word is its two halves. -/
theorem split_word (w : BitVec 32) : ∃ a b : BitVec 16, w = a ++ b := by
  refine ⟨w.extractLsb' 16 16, w.extractLsb' 0 16, ?_⟩
  apply BitVec.eq_of_getLsbD_eq
  intro i hi
  rw [BitVec.getLsbD_append, BitVec.getLsbD_extractLsb', BitVec.getLsbD_extractLsb']
  by_cases h : i < 16
  · simp [h]
  · simp [h]
    rw [show 16 + (i - 16) = i by omega]
    simp [show i - 16 < 16 by omega]

theorem append_toNat (a b : BitVec 16) : (a ++ b).toNat = 65536 * a.toNat + b.toNat := by
  rw [BitVec.toNat_append, ← Nat.shiftLeft_add_eq_or_of_lt b.isLt, Nat.shiftLeft_eq]
  omega

theorem append_eq_zero (a b : BitVec 16) : a ++ b = 0#32 ↔ a = 0#16 ∧ b = 0#16 := by
  constructor
  · intro h
    have := congrArg BitVec.toNat h
    rw [append_toNat] at this
    have e : (0#32).toNat = 0 := rfl
    rw [e] at this
    exact ⟨BitVec.eq_of_toNat_eq (by show a.toNat = 0; omega), BitVec.eq_of_toNat_eq (by show b.toNat = 0; omega)⟩
  · rintro ⟨rfl, rfl⟩; rfl

/-- Zero replaced by the exponent of one. -/
def fixH (a : BitVec 16) : BitVec 16 := if a = 0#16 then 16128#16 else a

theorem cmpi_eq_bool {w : ℕ} (a b : BitVec w) : IntOp.cmpi .eq a b = BitVec.ofBool (decide (a = b)) := by
  by_cases h : a = b
  · subst h; simp [IntOp.cmpi]
  · rw [decide_eq_false h]; simp [IntOp.cmpi, h]; rw [beq_false_of_ne h]; rfl

theorem fix_word (c : IVec S16x128 32) (q : Fin 16) (l : Fin 128) (a b : BitVec 16) (h : c (ix2 q l) = a ++ b) :
    fix c (ix2 q l) = fixH a ++ fixH b := by
  have f1 : fixLow c (ix2 q l) = a ++ fixH b := by
    have e : fixLow c (ix2 q l) = Scalar.select (IntOp.cmpi .eq (c (ix2 q l) &&& 65535#32) 0#32) (c (ix2 q l) ||| 16128#32) (c (ix2 q l)) := rfl
    rw [e, h, cmpi_eq_bool, show (65535#32) = 0#16 ++ 65535#16 from rfl, BitVec.and_append,
      show (16128#32) = 0#16 ++ 16128#16 from rfl, BitVec.or_append]
    have hz : ((a &&& 0#16) ++ (b &&& 65535#16) = 0#32) ↔ b = 0#16 := by
      rw [append_eq_zero, show (65535#16) = BitVec.allOnes 16 from rfl, BitVec.and_allOnes]
      simp
    unfold fixH
    by_cases hb : b = 0#16
    · rw [decide_eq_true (hz.2 hb), if_pos hb]
      rw [hb]
      exact congrArg (fun x : BitVec 16 => x ++ 16128#16) (BitVec.or_zero (x := a))
    · rw [decide_eq_false (fun x => hb (hz.1 x)), if_neg hb]
      rfl
  have e : fix c (ix2 q l) = Scalar.select (IntOp.cmpi .eq (c (ix2 q l) &&& 4294901760#32) 0#32) (fixLow c (ix2 q l) ||| 1056964608#32) (fixLow c (ix2 q l)) := rfl
  rw [e, f1, h, cmpi_eq_bool, show (4294901760#32) = 65535#16 ++ 0#16 from rfl, BitVec.and_append,
    show (1056964608#32) = 16128#16 ++ 0#16 from rfl, BitVec.or_append]
  have hz : ((a &&& 65535#16) ++ (b &&& 0#16) = 0#32) ↔ a = 0#16 := by
    rw [append_eq_zero, show (65535#16) = BitVec.allOnes 16 from rfl, BitVec.and_allOnes]
    simp
  by_cases ha : a = 0#16
  · rw [decide_eq_true (hz.2 ha)]
    rw [ha]
    exact congrArg (fun x : BitVec 16 => 16128#16 ++ x) (BitVec.or_zero (x := fixH b))
  · rw [decide_eq_false (fun x => ha (hz.1 x))]
    rw [show fixH a = a from if_neg ha]
    rfl

/-- The replacement, half by half. -/
theorem fix_apply (c : IVec S16x128 32) (r : Fin 32) (l : Fin 128) : unpack (fix c) (ix2 r l) = fixH (unpack c (ix2 r l)) := by
  obtain ⟨a, b, h⟩ := split_word (c (ix2 (pr r) l))
  rw [unpack_apply, unpack_apply, fix_word c _ l a b h, h, sel_append, sel_append]
  split_ifs <;> rfl

/-- The lane tile `t`'s word of lane `l` is taken from. -/
theorem word_apply (c : IVec S16x128 32) (t : Fin 8) (r : Fin 32) (l : Fin 128) :
    unpack (word c (BitVec.ofNat 32 t.val)) (ix2 r l) = unpack c (ix2 r (⟨32 * (l.val / 32) + t.val, by omega⟩ : Fin 128)) := by
  rw [unpack_apply, unpack_apply]
  congr 1
  refine gather_apply _ _ _ _ _ ?_
  show (lane (ix2 (pr r) l) &&& 4294967264#32) + BitVec.ofNat 32 t.val = _
  rw [lane_apply]
  exact (by decide +kernel : ∀ t : Fin 8, ∀ l : Fin 128,
    (BitVec.ofNat 32 l.val &&& 4294967264#32) + BitVec.ofNat 32 t.val = BitVec.ofNat 32 (32 * (l.val / 32) + t.val)) t l

/-! ### Scales -/

/-- A word tensor of exponents `e`. -/
def Words (p : IVec S16x128 32) (e : Fin 32 → Fin 128 → ℕ) : Prop :=
  ∀ r l, (1 ≤ e r l ∧ e r l ≤ 246) ∧ unpack p (ix2 r l) = BitVec.ofNat 16 (128 * e r l)

theorem sub_append (a b : BitVec 16) (ha : a.toNat ≤ 32384) (hb : b.toNat ≤ 32384) :
    2122350208#32 - (a ++ b) = (32384#16 - a) ++ (32384#16 - b) := by
  apply BitVec.eq_of_toNat_eq
  rw [append_toNat, BitVec.toNat_sub, BitVec.toNat_sub, BitVec.toNat_sub, append_toNat]
  have e1 : (2122350208#32).toNat = 2122350208 := rfl
  have e2 : (32384#16).toNat = 32384 := rfl
  rw [e1, e2]
  omega

theorem add_append (a b : BitVec 16) (ha : a.toNat ≤ 32384) (hb : b.toNat ≤ 32384) :
    (a ++ b) + 8388736#32 = (a + 128#16) ++ (b + 128#16) := by
  apply BitVec.eq_of_toNat_eq
  rw [append_toNat, BitVec.toNat_add, BitVec.toNat_add, BitVec.toNat_add, append_toNat]
  have e1 : (8388736#32).toNat = 8388736 := rfl
  have e2 : (128#16).toNat = 128 := rfl
  rw [e1, e2]
  omega

/-- Both halves of a word of exponents are small. -/
theorem Words.halves {p : IVec S16x128 32} {e : Fin 32 → Fin 128 → ℕ} (h : Words p e) (q : Fin 16) (l : Fin 128) :
    ∃ a b : BitVec 16, p (ix2 q l) = a ++ b ∧ a.toNat ≤ 32384 ∧ b.toNat ≤ 32384 := by
  obtain ⟨a, b, hw⟩ := split_word (p (ix2 q l))
  have hs : ∀ n : Fin 247, (BitVec.ofNat 16 (128 * n.val)).toNat ≤ 32384 := by decide +kernel
  refine ⟨a, b, hw, ?_, ?_⟩
  · obtain ⟨⟨_, h2⟩, h1⟩ := h (⟨2 * q.val + 1, by omega⟩ : Fin 32) l
    rw [unpack_apply, show pr (⟨2 * q.val + 1, by omega⟩ : Fin 32) = q from Fin.ext (by show (2 * q.val + 1) / 2 = _; omega), hw, sel_append,
      if_neg (by show ¬ (2 * q.val + 1) % 2 = 0; omega)] at h1
    rw [h1]; exact hs ⟨_, Nat.lt_succ_of_le h2⟩
  · obtain ⟨⟨_, h2⟩, h1⟩ := h (⟨2 * q.val, by omega⟩ : Fin 32) l
    rw [unpack_apply, show pr (⟨2 * q.val, by omega⟩ : Fin 32) = q from Fin.ext (by show (2 * q.val) / 2 = _; omega), hw, sel_append,
      if_pos (by show (2 * q.val) % 2 = 0; omega)] at h1
    rw [h1]; exact hs ⟨_, Nat.lt_succ_of_le h2⟩

/-- The reciprocal scale of a word. -/
theorem invOf_apply {p : IVec S16x128 32} {e : Fin 32 → Fin 128 → ℕ} (h : Words p e) (r : Fin 32) (l : Fin 128) :
    (invOf p : FVec Ideal S32x128 .f32) (ix2 r l) = pw (126 - (e r l : ℤ)) := by
  have h0 : (invOf p : FVec Ideal S32x128 .f32) (ix2 r l) = Ideal.ofBits .bf16 (unpack (subi (broadcast S16x128 2122350208#32) p) (ix2 r l)) := rfl
  obtain ⟨⟨h1, h2⟩, h3⟩ := h r l
  have hw : ∀ n : Fin 247, 32384#16 - BitVec.ofNat 16 (128 * n.val) = BitVec.ofNat 16 (128 * (253 - n.val)) := by decide +kernel
  have h4 : unpack (subi (broadcast S16x128 2122350208#32) p) (ix2 r l) = 32384#16 - unpack p (ix2 r l) := by
    obtain ⟨a, b, hab, ha, hb⟩ := h.halves (pr r) l
    rw [unpack_apply, unpack_apply, show subi (broadcast S16x128 2122350208#32) p (ix2 (pr r) l) = 2122350208#32 - p (ix2 (pr r) l) from rfl,
      hab, sub_append a b ha hb, sel_append, sel_append]
    split_ifs <;> rfl
  rw [h0, h4, h3, hw ⟨_, Nat.lt_succ_of_le h2⟩]
  have := ofBits_bf16 ⟨253 - e r l, by omega⟩ (by show 0 < 253 - e r l; omega)
  rw [this]
  congr 1
  show ((253 - e r l : ℕ) : ℤ) - 127 = _
  omega

/-- The scale of a word. -/
theorem scaleOf_apply {p : IVec S16x128 32} {e : Fin 32 → Fin 128 → ℕ} (h : Words p e) (r : Fin 32) (l : Fin 128) :
    (scaleOf p : FVec Ideal S32x128 .bf16) (ix2 r l) = pw ((e r l : ℤ) - 126) := by
  have h0 : (scaleOf p : FVec Ideal S32x128 .bf16) (ix2 r l) = Ideal.ofBits .bf16 (unpack (addi p (broadcast S16x128 8388736#32)) (ix2 r l)) := rfl
  obtain ⟨⟨h1, h2⟩, h3⟩ := h r l
  have hw : ∀ n : Fin 247, BitVec.ofNat 16 (128 * n.val) + 128#16 = BitVec.ofNat 16 (128 * (n.val + 1)) := by decide +kernel
  have h4 : unpack (addi p (broadcast S16x128 8388736#32)) (ix2 r l) = unpack p (ix2 r l) + 128#16 := by
    obtain ⟨a, b, hab, ha, hb⟩ := h.halves (pr r) l
    rw [unpack_apply, unpack_apply, show addi p (broadcast S16x128 8388736#32) (ix2 (pr r) l) = p (ix2 (pr r) l) + 8388736#32 from rfl,
      hab, add_append a b ha hb, sel_append, sel_append]
    split_ifs <;> rfl
  rw [h0, h4, h3, hw ⟨_, Nat.lt_succ_of_le h2⟩]
  have := ofBits_bf16 ⟨e r l + 1, by omega⟩ (by show 0 < e r l + 1; omega)
  rw [this]
  congr 1
  show ((e r l + 1 : ℕ) : ℤ) - 127 = _
  push_cast; ring

/-! ### A trip's tiles -/

/-- The words of a trip's blocks, of the eight tiles' values. -/
def block (h : Fin 8 → FVec Ideal S32x128 .f32) : IVec S16x128 32 :=
  fix (tourney (pack (half (h 0))) (pack (half (h 1))) (pack (half (h 2))) (pack (half (h 3))) (pack (half (h 4))) (pack (half (h 5)))
    (pack (half (h 6))) (pack (half (h 7))))

/-- The exponent of block `q` of row `r` of tile `t`. -/
def E (h : Fin 8 → FVec Ideal S32x128 .f32) (t : Fin 8) (r : Fin 32) (q : Fin 4) : ℕ :=
  blockE fun m => h t (ix2 r (⟨32 * q.val + m.val, by omega⟩ : Fin 128))

/-- Lane `l` of the words: tile `l % 8`, block `l / 32`. -/
theorem block_apply (h : Fin 8 → FVec Ideal S32x128 .f32) (r : Fin 32) (l : Fin 128) :
    unpack (block h) (ix2 r l) = BitVec.ofNat 16 (128 * E h ⟨l.val % 8, by omega⟩ r ⟨l.val / 32, by omega⟩) := by
  unfold block
  rw [fix_apply]
  have key := tourney_apply (fun t => pack (half (h t))) r l
  simp only [unpack_pack, half_apply] at key
  have hn : ∀ n : Fin 247, (BitVec.ofNat 16 (128 * n.val)).toNat = 128 * n.val := by decide +kernel
  have hsup : (Finset.univ.sup fun m : Fin 32 =>
        (BitVec.ofNat 16 (128 * expo (amag (h ⟨l.val % 8, by omega⟩ (ix2 r (⟨32 * (l.val / 32) + m.val, by omega⟩ : Fin 128)))))).toNat)
      = 128 * (Finset.univ.sup fun m : Fin 32 => expo (amag (h ⟨l.val % 8, by omega⟩ (ix2 r (⟨32 * (l.val / 32) + m.val, by omega⟩ : Fin 128))))) := by
    rw [Finset.comp_sup_eq_sup_comp (fun n : ℕ => 128 * n) (fun x y => Nat.mul_max_mul_left 128 x y |>.symm) rfl]
    exact Finset.sup_congr rfl fun m _ => hn ⟨_, Nat.lt_succ_of_le (expo_le _)⟩
  rw [hsup] at key
  set N := Finset.univ.sup fun m : Fin 32 => expo (amag (h ⟨l.val % 8, by omega⟩ (ix2 r (⟨32 * (l.val / 32) + m.val, by omega⟩ : Fin 128)))) with hN
  have hle : N ≤ 246 := Finset.sup_le fun _ _ => expo_le _
  have hE : E h ⟨l.val % 8, by omega⟩ r ⟨l.val / 32, by omega⟩ = fixE N := rfl
  have hu : unpack (tourney (pack (half (h 0))) (pack (half (h 1))) (pack (half (h 2))) (pack (half (h 3))) (pack (half (h 4)))
      (pack (half (h 5))) (pack (half (h 6))) (pack (half (h 7)))) (ix2 r l) = BitVec.ofNat 16 (128 * N) := by
    apply BitVec.eq_of_toNat_eq
    rw [key]
    exact (hn ⟨N, Nat.lt_succ_of_le hle⟩).symm
  rw [hu, hE]
  exact (by decide +kernel : ∀ n : Fin 247, fixH (BitVec.ofNat 16 (128 * n.val)) = BitVec.ofNat 16 (128 * fixE n.val))
    ⟨N, Nat.lt_succ_of_le hle⟩

theorem words_word (h : Fin 8 → FVec Ideal S32x128 .f32) (t : Fin 8) :
    Words (word (block h) (BitVec.ofNat 32 t.val)) fun r l => E h t r ⟨l.val / 32, by omega⟩ := by
  intro r l
  refine ⟨⟨blockE_pos _, blockE_le _⟩, ?_⟩
  rw [word_apply, block_apply]
  congr 2
  congr 1
  · apply Fin.ext
    show (32 * (l.val / 32) + t.val) % 8 = t.val; omega
  · apply Fin.ext
    show (32 * (l.val / 32) + t.val) / 32 = l.val / 32; omega

theorem select_false {α : Type} (a b : α) : Scalar.select (BitVec.ofBool false) a b = b := rfl

theorem select_true {α : Type} (a b : α) : Scalar.select (BitVec.ofBool true) a b = a := rfl

theorem codes_at (x : FVec Ideal S32x128 .f32) (p : IVec S16x128 32) (i : S32x128.Idx) :
    codes x p i = min (Ideal.ofBits .f32 0x43E00000#32) (max (Ideal.ofBits .f32 0xC3E00000#32)
      (x i * (invOf p : FVec Ideal S32x128 .f32) i)) := rfl

theorem deq_at (x : FVec Ideal S32x128 .f32) (p : IVec S16x128 32) (i : S32x128.Idx) :
    deq x p i = codes x p i * (scaleOf p : FVec Ideal S32x128 .bf16) i := rfl

theorem scales_at (c : IVec S16x128 32) (o : BitVec 32) (old : Vec Ideal S32x128 .f32) (r : Fin 32) (l : Fin 128) :
    scales c o old (ix2 r l) = Scalar.select (IntOp.cmpi .sge (BitVec.ofNat 32 (0 * 128 + l.val)) o)
      ((scaleOf (gather c (scaleIdx o)) : FVec Ideal S32x128 .bf16) (ix2 r l)) (old (ix2 r l)) := by
  have e : scales c o old (ix2 r l) = Scalar.select (IntOp.cmpi .sge (BitVec.ofNat 32 (0 * 128 + l.val)) o)
      ((scaleOf (gather c (scaleIdx o)) : FVec Ideal S32x128 .bf16) (ix2 r l)) (shapeCast S32x128 old shapeCasts_S32x128_S32x128 (ix2 r l)) := rfl
  rw [e, show shapeCast S32x128 old shapeCasts_S32x128_S32x128 (ix2 r l) = old (ix2 r l) by pointwise]

/-- The codes of tile `t`. -/
theorem codes_apply (h : Fin 8 → FVec Ideal S32x128 .f32) (t : Fin 8) (r : Fin 32) (l : Fin 128) :
    codes (h t) (word (block h) (BitVec.ofNat 32 t.val)) (ix2 r l) = code (h t (ix2 r l)) (E h t r ⟨l.val / 32, by omega⟩) := by
  rw [codes_at, invOf_apply (words_word h t), code]

/-- The dequantised values of tile `t`. -/
theorem deq_apply (h : Fin 8 → FVec Ideal S32x128 .f32) (t : Fin 8) (r : Fin 32) (l : Fin 128) :
    deq (h t) (word (block h) (BitVec.ofNat 32 t.val)) (ix2 r l)
      = code (h t (ix2 r l)) (E h t r ⟨l.val / 32, by omega⟩) * pw ((E h t r ⟨l.val / 32, by omega⟩ : ℤ) - 126) := by
  rw [deq_at, scaleOf_apply (words_word h t), codes_apply]

/-- The lane from which the scales' gather takes lane `l` at column block `j`. -/
def src (j : Fin 12) (l : Fin 128) : Fin 128 :=
  ⟨((l.val + 128 - 32 * (j.val % 4)) % 128) % 4 * 32 + ((l.val + 128 - 32 * (j.val % 4)) % 128) / 4 % 8, by omega⟩

theorem scaleIdx_row (o : BitVec 32) (q : Fin 16) (l : Fin 128) : scaleIdx o (ix2 q l) = scaleIdx o (ix2 (0 : Fin 16) l) := rfl

theorem scaleIdx_zero : ∀ j : Fin 12, ∀ l : Fin 128,
    scaleIdx (off (BitVec.ofNat 32 j.val)) (ix2 (0 : Fin 16) l) = BitVec.ofNat 32 (src j l).val := by
  decide +kernel

theorem scaleIdx_apply (j : Fin 12) (q : Fin 16) (l : Fin 128) :
    scaleIdx (off (BitVec.ofNat 32 j.val)) (ix2 q l) = BitVec.ofNat 32 (src j l).val := by
  rw [scaleIdx_row, scaleIdx_zero]

/-- Which lanes are written. -/
theorem sge_apply : ∀ j : Fin 12, ∀ l : Fin 128,
    IntOp.cmpi .sge (BitVec.ofNat 32 (0 * 128 + l.val)) (off (BitVec.ofNat 32 j.val)) = BitVec.ofBool (decide (32 * (j.val % 4) ≤ l.val)) := by
  decide +kernel

/-- The scales' lanes before column block `j`'s are kept, -/
theorem scales_old (h : Fin 8 → FVec Ideal S32x128 .f32) (j : Fin 12) (old : Vec Ideal S32x128 .f32) (r : Fin 32) (l : Fin 128)
    (hl : l.val < 32 * (j.val % 4)) : scales (block h) (off (BitVec.ofNat 32 j.val)) old (ix2 r l) = old (ix2 r l) := by
  rw [scales_at, sge_apply, decide_eq_false (by omega), select_false]

theorem words_gather (h : Fin 8 → FVec Ideal S32x128 .f32) (j : Fin 12) :
    Words (gather (block h) (scaleIdx (off (BitVec.ofNat 32 j.val))))
      fun r l => E h ⟨(src j l).val % 8, by omega⟩ r ⟨(src j l).val / 32, by omega⟩ := by
  intro r l
  refine ⟨⟨blockE_pos _, blockE_le _⟩, ?_⟩
  rw [unpack_apply, gather_apply _ _ _ _ _ (scaleIdx_apply j (pr r) l), ← unpack_apply, block_apply]

/-- and the 32 lanes that follow take the tile's scales, block by block. -/
theorem scales_new (h : Fin 8 → FVec Ideal S32x128 .f32) (j : Fin 12) (old : Vec Ideal S32x128 .f32) (r : Fin 32) (l : Fin 128) (m : Fin 32)
    (hl : l.val = 32 * (j.val % 4) + m.val) :
    scales (block h) (off (BitVec.ofNat 32 j.val)) old (ix2 r l) = pw ((E h ⟨m.val / 4, by omega⟩ r ⟨m.val % 4, by omega⟩ : ℤ) - 126) := by
  have hm : (l.val + 128 - 32 * (j.val % 4)) % 128 = m.val := by omega
  have hs : (src j l).val = m.val % 4 * 32 + m.val / 4 := by
    show (l.val + 128 - 32 * (j.val % 4)) % 128 % 4 * 32 + (l.val + 128 - 32 * (j.val % 4)) % 128 / 4 % 8 = _
    rw [hm]; omega
  have h1 : (⟨(src j l).val % 8, by omega⟩ : Fin 8) = ⟨m.val / 4, by omega⟩ := Fin.ext (by show (src j l).val % 8 = m.val / 4; rw [hs]; omega)
  have h2 : (⟨(src j l).val / 32, by omega⟩ : Fin 4) = ⟨m.val % 4, by omega⟩ := Fin.ext (by show (src j l).val / 32 = m.val % 4; rw [hs]; omega)
  rw [scales_at, sge_apply, decide_eq_true (by omega), scaleOf_apply (words_gather h j), h1, h2, select_true]

end Cert.UpIdeal.Tile

end
-- ==== Proof.UpLoop.lean ====
/-
  What the first call's epilogue loop leaves in its three result buffers, over the extended reals: after `n` trips the first
  `32 n` rows hold the codes, the dequantised values and, in the column blocks' own lanes, the scales.
-/
module

public import proofs.«01_k».proof.Proof.UpTrip
public import proofs.«01_k».proof.Proof.UpScale
public import Idealize.ShloMosaic.Lib.WritesUnit

@[expose] public section

set_option maxRecDepth 16384

noncomputable section

namespace Cert.UpIdeal.Tile

open Cert.UpIdeal Cert.UpIdeal.Gen Cert.UpMath
open Idealize.ShloMosaic Idealize.ShloMosaic.TcCoe

/-! ### Reading through a trip's pieces -/

/-- A 32x128 piece at row `o 0` and column `o 1` of a buffer, read at one index. -/
theorem piece_read {e : EltTy} {sp : Space} {κ : Kind} {A B : ℕ} (v : View sig κ sp ⟨2, ![A, B]⟩ e) (f : v.ty.Contents (Elt Ideal)) (o : Fin 2 → ℕ) (p q : ℕ)
    (ho : o = ![p, q]) (inb : ∀ a, o a + S32x128.size a ≤ (⟨2, ![A, B]⟩ : Shape).size a) (w : S32x128.Idx → Elt Ideal e)
    (L : List (View.Piece (Elt Ideal) ⟨2, ![A, B]⟩ e)) (row : Fin A) (col : Fin B) :
    v.read (Elt Ideal) (v.writes (Elt Ideal) f (⟨Rect.unit (s := ⟨2, ![A, B]⟩) o S32x128.size inb, w⟩ :: L)) (ix2 row col)
      = if h : (p ≤ row.val ∧ row.val < p + 32) ∧ q ≤ col.val ∧ col.val < q + 128 then
          w (ix2 (⟨row.val - p, by omega⟩ : Fin 32) (⟨col.val - q, by omega⟩ : Fin 128))
        else v.read (Elt Ideal) (v.writes (Elt Ideal) f L) (ix2 row col) := by
  subst ho
  rw [View.read_writes_cons_unit v f inb w L (ix2 row col) rfl]
  by_cases h : (p ≤ row.val ∧ row.val < p + 32) ∧ q ≤ col.val ∧ col.val < q + 128
  · have h' : ∀ a, (![p, q] : Fin 2 → ℕ) a ≤ ((ix2 row col : (⟨2, ![A, B]⟩ : Shape).Idx) a).val
        ∧ ((ix2 row col : (⟨2, ![A, B]⟩ : Shape).Idx) a).val < (![p, q] : Fin 2 → ℕ) a + S32x128.size a := by
      intro a; fin_cases a
      · exact h.1
      · exact h.2
    rw [dif_pos h, dif_pos h']
    congr 1
    funext a
    fin_cases a <;> rfl
  · rw [dif_neg h, dif_neg]
    intro h'
    exact h ⟨h' 0, h' 1⟩

/-- The eight pieces of a trip, read at one index. -/
theorem tiles_read {e : EltTy} {sp : Space} {κ : Kind} (v : View sig κ sp S1024x1024 e) (f : v.ty.Contents (Elt Ideal)) (k : Fin k0_t1_loop.trips)
    (w : Fin 8 → S32x128.Idx → Elt Ideal e) (L : List (View.Piece (Elt Ideal) S1024x1024 e)) (row col : Fin 1024) :
    v.read (Elt Ideal) (v.writes (Elt Ideal) f
      (⟨Rect.unit (s := S1024x1024) (k0_off8 k) S32x128.size (k0_off8_inb k), w 7⟩ :: ⟨Rect.unit (s := S1024x1024) (k0_off7 k) S32x128.size (k0_off7_inb k), w 6⟩
      :: ⟨Rect.unit (s := S1024x1024) (k0_off6 k) S32x128.size (k0_off6_inb k), w 5⟩ :: ⟨Rect.unit (s := S1024x1024) (k0_off5 k) S32x128.size (k0_off5_inb k), w 4⟩
      :: ⟨Rect.unit (s := S1024x1024) (k0_off4 k) S32x128.size (k0_off4_inb k), w 3⟩ :: ⟨Rect.unit (s := S1024x1024) (k0_off3 k) S32x128.size (k0_off3_inb k), w 2⟩
      :: ⟨Rect.unit (s := S1024x1024) (k0_off2 k) S32x128.size (k0_off2_inb k), w 1⟩ :: ⟨Rect.unit (s := S1024x1024) (k0_off1 k) S32x128.size (k0_off1_inb k), w 0⟩ :: L)) (ix2 row col)
      = if h : 32 * k.val ≤ row.val ∧ row.val < 32 * k.val + 32 then
          w ⟨col.val / 128, by omega⟩ (ix2 (⟨row.val - 32 * k.val, by omega⟩ : Fin 32) (⟨col.val % 128, by omega⟩ : Fin 128))
        else v.read (Elt Ideal) (v.writes (Elt Ideal) f L) (ix2 row col) := by
  rw [piece_read (A := 1024) (B := 1024) v f _ _ _ (k0_off8_eq k), piece_read (A := 1024) (B := 1024) v f _ _ _ (k0_off7_eq k),
    piece_read (A := 1024) (B := 1024) v f _ _ _ (k0_off6_eq k), piece_read (A := 1024) (B := 1024) v f _ _ _ (k0_off5_eq k),
    piece_read (A := 1024) (B := 1024) v f _ _ _ (k0_off4_eq k), piece_read (A := 1024) (B := 1024) v f _ _ _ (k0_off3_eq k),
    piece_read (A := 1024) (B := 1024) v f _ _ _ (k0_off2_eq k), piece_read (A := 1024) (B := 1024) v f _ _ _ (k0_off1_eq k)]
  have hc := col.isLt
  by_cases h : 32 * k.val ≤ row.val ∧ row.val < 32 * k.val + 32
  · rw [dif_pos h]
    have key : ∀ t : Fin 8, ∀ h1 : 128 * t.val ≤ col.val ∧ col.val < 128 * t.val + 128,
        w t (ix2 (⟨row.val - 32 * k.val, by omega⟩ : Fin 32) (⟨col.val - 128 * t.val, by omega⟩ : Fin 128))
          = w ⟨col.val / 128, by omega⟩ (ix2 (⟨row.val - 32 * k.val, by omega⟩ : Fin 32) (⟨col.val % 128, by omega⟩ : Fin 128)) := by
      intro t h1
      have e1 : (⟨col.val / 128, by omega⟩ : Fin 8) = t := Fin.ext (by show col.val / 128 = t.val; omega)
      have e2 : (⟨col.val % 128, by omega⟩ : Fin 128) = ⟨col.val - 128 * t.val, by omega⟩ := Fin.ext (by show col.val % 128 = col.val - 128 * t.val; omega)
      rw [e1, e2]
    split_ifs with h7 h6 h5 h4 h3 h2 h1 h0
    · exact key 7 h7.2
    · exact key 6 h6.2
    · exact key 5 h5.2
    · exact key 4 h4.2
    · exact key 3 h3.2
    · exact key 2 h2.2
    · exact key 1 h1.2
    · exact key 0 h0.2
    · omega
  · rw [dif_neg h]
    rw [dif_neg (fun x => h x.1), dif_neg (fun x => h x.1), dif_neg (fun x => h x.1), dif_neg (fun x => h x.1),
      dif_neg (fun x => h x.1), dif_neg (fun x => h x.1), dif_neg (fun x => h x.1), dif_neg (fun x => h x.1)]

/-! ### The activations of a grid point -/

/-- The activation at row `r` and column `l` of the window, from the accumulator and the two vectors. -/
def hF (arg4 arg5 : Memref sig .tc .vmem S1x1024 .f32) (arg9 : Memref sig .tc .vmem S1024x1024 .f32) (X_arg4 : BufTy.Contents (Elt Ideal) arg4.view.ty)
    (X_arg5 : BufTy.Contents (Elt Ideal) arg5.view.ty) (X_arg9 : BufTy.Contents (Elt Ideal) arg9.view.ty) (r l : Fin 1024) : EReal :=
  UpMath.gelu (arg9.view.read (Elt Ideal) X_arg9 (ix2 r l) * arg4.view.read (Elt Ideal) X_arg4 (ix2 (0 : Fin 1) l)
    + arg5.view.read (Elt Ideal) X_arg5 (ix2 (0 : Fin 1) l))

/-- The exponent of block `B` of row `r` of the window. -/
def bE (h : Fin 1024 → Fin 1024 → EReal) (r : Fin 1024) (B : Fin 32) : ℕ := blockE fun m => h r ⟨32 * B.val + m.val, by omega⟩

theorem one_f32 : Ideal.ofBits .f32 0x3F800000#32 = 1 := by
  rw [show Ideal.ofBits .f32 0x3F800000#32 = pw (((127 : Fin 255).val : ℤ) - 127) from ofBits_f32 (127 : Fin 255) (by decide)]
  norm_num [pw]

theorem row_apply (u : Vec Ideal S1x128 .f32) (r : Fin 32) (l : Fin 128) :
    broadcastTo S32x128 (shapeCast S1x128 u shapeCasts_S1x128_S1x128) broadcasts_S1x128_S32x128 (ix2 r l) = u (ix2 (0 : Fin 1) l) := by
  pointwise

theorem gelu_apply (x : Vec Ideal S32x128 .f32) (ws b : Vec Ideal S1x128 .f32) (r : Fin 32) (l : Fin 128) :
    gelu x ws b (ix2 r l) = UpMath.gelu (x (ix2 r l) * ws (ix2 (0 : Fin 1) l) + b (ix2 (0 : Fin 1) l)) := by
  have e : gelu x ws b (ix2 r l) = Ideal.ofBits .f32 0x3F000000#32
      * (x (ix2 r l) * broadcastTo S32x128 (shapeCast S1x128 ws shapeCasts_S1x128_S1x128) broadcasts_S1x128_S32x128 (ix2 r l)
        + broadcastTo S32x128 (shapeCast S1x128 b shapeCasts_S1x128_S1x128) broadcasts_S1x128_S32x128 (ix2 r l))
      * (Ideal.ofBits .f32 0x3F800000#32 + Ideal.erf ((x (ix2 r l) * broadcastTo S32x128 (shapeCast S1x128 ws shapeCasts_S1x128_S1x128) broadcasts_S1x128_S32x128 (ix2 r l)
        + broadcastTo S32x128 (shapeCast S1x128 b shapeCasts_S1x128_S1x128) broadcasts_S1x128_S32x128 (ix2 r l)) * Ideal.ofBits .f32 0x3F3504F3#32)) := rfl
  rw [e, row_apply, row_apply, one_f32]
  rfl

/-- A load of a block, read at one index. -/
theorem load_read {A B a b : ℕ} {sp : Space} {κ : Kind} {e : EltTy} (v : View sig κ sp ⟨2, ![A, B]⟩ e) (f : v.ty.Contents (Elt Ideal)) (o : Fin 2 → ℕ) (p q : ℕ) (ho : o = ![p, q])
    (inb : ∀ i, o i + (⟨2, ![a, b]⟩ : Shape).size i ≤ (⟨2, ![A, B]⟩ : Shape).size i) (r : Fin a) (l : Fin b) (hr : p + r.val < A) (hl : q + l.val < B) :
    v.readAt (Elt Ideal) (Rect.unit (s := ⟨2, ![A, B]⟩) o (⟨2, ![a, b]⟩ : Shape).size inb).toLoadRect f (ix2 r l)
      = v.read (Elt Ideal) f (ix2 (⟨p + r.val, hr⟩ : Fin A) (⟨q + l.val, hl⟩ : Fin B)) := by
  subst ho
  rw [View.readAt_apply]
  congr 1
  funext i
  fin_cases i
  · apply Fin.ext
    show p + 1 * r.val = p + r.val; omega
  · apply Fin.ext
    show q + 1 * l.val = q + l.val; omega

theorem H0_apply (arg4 arg5 : Memref sig .tc .vmem S1x1024 .f32) (arg9 : Memref sig .tc .vmem S1024x1024 .f32) (X_arg4 : BufTy.Contents (Elt Ideal) arg4.view.ty)
    (X_arg5 : BufTy.Contents (Elt Ideal) arg5.view.ty) (X_arg9 : BufTy.Contents (Elt Ideal) arg9.view.ty) (k : Fin k0_t1_loop.trips) (r : Fin 32) (l : Fin 128)
    (hr : 32 * k.val + r.val < 1024) :
    H0 arg4 arg5 arg9 X_arg4 X_arg5 X_arg9 k (ix2 r l) = hF arg4 arg5 arg9 X_arg4 X_arg5 X_arg9 ⟨32 * k.val + r.val, hr⟩ ⟨0 + l.val, by omega⟩ := by
  unfold H0 hF
  rw [gelu_apply, load_read (A := 1024) (B := 1024) arg9.view X_arg9 _ _ _ (k0_off1_eq k) _ r l hr (by omega),
    load_read (A := 1) (B := 1024) arg4.view X_arg4 _ 0 0 rfl _ (0 : Fin 1) l (by omega) (by omega),
    load_read (A := 1) (B := 1024) arg5.view X_arg5 _ 0 0 rfl _ (0 : Fin 1) l (by omega) (by omega)]
  rfl

theorem H1_apply (arg4 arg5 : Memref sig .tc .vmem S1x1024 .f32) (arg9 : Memref sig .tc .vmem S1024x1024 .f32) (X_arg4 : BufTy.Contents (Elt Ideal) arg4.view.ty)
    (X_arg5 : BufTy.Contents (Elt Ideal) arg5.view.ty) (X_arg9 : BufTy.Contents (Elt Ideal) arg9.view.ty) (k : Fin k0_t1_loop.trips) (r : Fin 32) (l : Fin 128)
    (hr : 32 * k.val + r.val < 1024) :
    H1 arg4 arg5 arg9 X_arg4 X_arg5 X_arg9 k (ix2 r l) = hF arg4 arg5 arg9 X_arg4 X_arg5 X_arg9 ⟨32 * k.val + r.val, hr⟩ ⟨128 + l.val, by omega⟩ := by
  unfold H1 hF
  rw [gelu_apply, load_read (A := 1024) (B := 1024) arg9.view X_arg9 _ _ _ (k0_off2_eq k) _ r l hr (by omega),
    load_read (A := 1) (B := 1024) arg4.view X_arg4 _ 0 128 rfl _ (0 : Fin 1) l (by omega) (by omega),
    load_read (A := 1) (B := 1024) arg5.view X_arg5 _ 0 128 rfl _ (0 : Fin 1) l (by omega) (by omega)]
  rfl

theorem H2_apply (arg4 arg5 : Memref sig .tc .vmem S1x1024 .f32) (arg9 : Memref sig .tc .vmem S1024x1024 .f32) (X_arg4 : BufTy.Contents (Elt Ideal) arg4.view.ty)
    (X_arg5 : BufTy.Contents (Elt Ideal) arg5.view.ty) (X_arg9 : BufTy.Contents (Elt Ideal) arg9.view.ty) (k : Fin k0_t1_loop.trips) (r : Fin 32) (l : Fin 128)
    (hr : 32 * k.val + r.val < 1024) :
    H2 arg4 arg5 arg9 X_arg4 X_arg5 X_arg9 k (ix2 r l) = hF arg4 arg5 arg9 X_arg4 X_arg5 X_arg9 ⟨32 * k.val + r.val, hr⟩ ⟨256 + l.val, by omega⟩ := by
  unfold H2 hF
  rw [gelu_apply, load_read (A := 1024) (B := 1024) arg9.view X_arg9 _ _ _ (k0_off3_eq k) _ r l hr (by omega),
    load_read (A := 1) (B := 1024) arg4.view X_arg4 _ 0 256 rfl _ (0 : Fin 1) l (by omega) (by omega),
    load_read (A := 1) (B := 1024) arg5.view X_arg5 _ 0 256 rfl _ (0 : Fin 1) l (by omega) (by omega)]
  rfl

theorem H3_apply (arg4 arg5 : Memref sig .tc .vmem S1x1024 .f32) (arg9 : Memref sig .tc .vmem S1024x1024 .f32) (X_arg4 : BufTy.Contents (Elt Ideal) arg4.view.ty)
    (X_arg5 : BufTy.Contents (Elt Ideal) arg5.view.ty) (X_arg9 : BufTy.Contents (Elt Ideal) arg9.view.ty) (k : Fin k0_t1_loop.trips) (r : Fin 32) (l : Fin 128)
    (hr : 32 * k.val + r.val < 1024) :
    H3 arg4 arg5 arg9 X_arg4 X_arg5 X_arg9 k (ix2 r l) = hF arg4 arg5 arg9 X_arg4 X_arg5 X_arg9 ⟨32 * k.val + r.val, hr⟩ ⟨384 + l.val, by omega⟩ := by
  unfold H3 hF
  rw [gelu_apply, load_read (A := 1024) (B := 1024) arg9.view X_arg9 _ _ _ (k0_off4_eq k) _ r l hr (by omega),
    load_read (A := 1) (B := 1024) arg4.view X_arg4 _ 0 384 rfl _ (0 : Fin 1) l (by omega) (by omega),
    load_read (A := 1) (B := 1024) arg5.view X_arg5 _ 0 384 rfl _ (0 : Fin 1) l (by omega) (by omega)]
  rfl

theorem H4_apply (arg4 arg5 : Memref sig .tc .vmem S1x1024 .f32) (arg9 : Memref sig .tc .vmem S1024x1024 .f32) (X_arg4 : BufTy.Contents (Elt Ideal) arg4.view.ty)
    (X_arg5 : BufTy.Contents (Elt Ideal) arg5.view.ty) (X_arg9 : BufTy.Contents (Elt Ideal) arg9.view.ty) (k : Fin k0_t1_loop.trips) (r : Fin 32) (l : Fin 128)
    (hr : 32 * k.val + r.val < 1024) :
    H4 arg4 arg5 arg9 X_arg4 X_arg5 X_arg9 k (ix2 r l) = hF arg4 arg5 arg9 X_arg4 X_arg5 X_arg9 ⟨32 * k.val + r.val, hr⟩ ⟨512 + l.val, by omega⟩ := by
  unfold H4 hF
  rw [gelu_apply, load_read (A := 1024) (B := 1024) arg9.view X_arg9 _ _ _ (k0_off5_eq k) _ r l hr (by omega),
    load_read (A := 1) (B := 1024) arg4.view X_arg4 _ 0 512 rfl _ (0 : Fin 1) l (by omega) (by omega),
    load_read (A := 1) (B := 1024) arg5.view X_arg5 _ 0 512 rfl _ (0 : Fin 1) l (by omega) (by omega)]
  rfl

theorem H5_apply (arg4 arg5 : Memref sig .tc .vmem S1x1024 .f32) (arg9 : Memref sig .tc .vmem S1024x1024 .f32) (X_arg4 : BufTy.Contents (Elt Ideal) arg4.view.ty)
    (X_arg5 : BufTy.Contents (Elt Ideal) arg5.view.ty) (X_arg9 : BufTy.Contents (Elt Ideal) arg9.view.ty) (k : Fin k0_t1_loop.trips) (r : Fin 32) (l : Fin 128)
    (hr : 32 * k.val + r.val < 1024) :
    H5 arg4 arg5 arg9 X_arg4 X_arg5 X_arg9 k (ix2 r l) = hF arg4 arg5 arg9 X_arg4 X_arg5 X_arg9 ⟨32 * k.val + r.val, hr⟩ ⟨640 + l.val, by omega⟩ := by
  unfold H5 hF
  rw [gelu_apply, load_read (A := 1024) (B := 1024) arg9.view X_arg9 _ _ _ (k0_off6_eq k) _ r l hr (by omega),
    load_read (A := 1) (B := 1024) arg4.view X_arg4 _ 0 640 rfl _ (0 : Fin 1) l (by omega) (by omega),
    load_read (A := 1) (B := 1024) arg5.view X_arg5 _ 0 640 rfl _ (0 : Fin 1) l (by omega) (by omega)]
  rfl

theorem H6_apply (arg4 arg5 : Memref sig .tc .vmem S1x1024 .f32) (arg9 : Memref sig .tc .vmem S1024x1024 .f32) (X_arg4 : BufTy.Contents (Elt Ideal) arg4.view.ty)
    (X_arg5 : BufTy.Contents (Elt Ideal) arg5.view.ty) (X_arg9 : BufTy.Contents (Elt Ideal) arg9.view.ty) (k : Fin k0_t1_loop.trips) (r : Fin 32) (l : Fin 128)
    (hr : 32 * k.val + r.val < 1024) :
    H6 arg4 arg5 arg9 X_arg4 X_arg5 X_arg9 k (ix2 r l) = hF arg4 arg5 arg9 X_arg4 X_arg5 X_arg9 ⟨32 * k.val + r.val, hr⟩ ⟨768 + l.val, by omega⟩ := by
  unfold H6 hF
  rw [gelu_apply, load_read (A := 1024) (B := 1024) arg9.view X_arg9 _ _ _ (k0_off7_eq k) _ r l hr (by omega),
    load_read (A := 1) (B := 1024) arg4.view X_arg4 _ 0 768 rfl _ (0 : Fin 1) l (by omega) (by omega),
    load_read (A := 1) (B := 1024) arg5.view X_arg5 _ 0 768 rfl _ (0 : Fin 1) l (by omega) (by omega)]
  rfl

theorem H7_apply (arg4 arg5 : Memref sig .tc .vmem S1x1024 .f32) (arg9 : Memref sig .tc .vmem S1024x1024 .f32) (X_arg4 : BufTy.Contents (Elt Ideal) arg4.view.ty)
    (X_arg5 : BufTy.Contents (Elt Ideal) arg5.view.ty) (X_arg9 : BufTy.Contents (Elt Ideal) arg9.view.ty) (k : Fin k0_t1_loop.trips) (r : Fin 32) (l : Fin 128)
    (hr : 32 * k.val + r.val < 1024) :
    H7 arg4 arg5 arg9 X_arg4 X_arg5 X_arg9 k (ix2 r l) = hF arg4 arg5 arg9 X_arg4 X_arg5 X_arg9 ⟨32 * k.val + r.val, hr⟩ ⟨896 + l.val, by omega⟩ := by
  unfold H7 hF
  rw [gelu_apply, load_read (A := 1024) (B := 1024) arg9.view X_arg9 _ _ _ (k0_off8_eq k) _ r l hr (by omega),
    load_read (A := 1) (B := 1024) arg4.view X_arg4 _ 0 896 rfl _ (0 : Fin 1) l (by omega) (by omega),
    load_read (A := 1) (B := 1024) arg5.view X_arg5 _ 0 896 rfl _ (0 : Fin 1) l (by omega) (by omega)]
  rfl

/-- The eight tiles of a trip. -/
def tiles (arg4 arg5 : Memref sig .tc .vmem S1x1024 .f32) (arg9 : Memref sig .tc .vmem S1024x1024 .f32) (X_arg4 : BufTy.Contents (Elt Ideal) arg4.view.ty)
    (X_arg5 : BufTy.Contents (Elt Ideal) arg5.view.ty) (X_arg9 : BufTy.Contents (Elt Ideal) arg9.view.ty) (k : Fin k0_t1_loop.trips) : Fin 8 → FVec Ideal S32x128 .f32 :=
  ![H0 arg4 arg5 arg9 X_arg4 X_arg5 X_arg9 k, H1 arg4 arg5 arg9 X_arg4 X_arg5 X_arg9 k, H2 arg4 arg5 arg9 X_arg4 X_arg5 X_arg9 k, H3 arg4 arg5 arg9 X_arg4 X_arg5 X_arg9 k, H4 arg4 arg5 arg9 X_arg4 X_arg5 X_arg9 k, H5 arg4 arg5 arg9 X_arg4 X_arg5 X_arg9 k, H6 arg4 arg5 arg9 X_arg4 X_arg5 X_arg9 k, H7 arg4 arg5 arg9 X_arg4 X_arg5 X_arg9 k]

theorem tiles_apply (arg4 arg5 : Memref sig .tc .vmem S1x1024 .f32) (arg9 : Memref sig .tc .vmem S1024x1024 .f32) (X_arg4 : BufTy.Contents (Elt Ideal) arg4.view.ty)
    (X_arg5 : BufTy.Contents (Elt Ideal) arg5.view.ty) (X_arg9 : BufTy.Contents (Elt Ideal) arg9.view.ty) (k : Fin k0_t1_loop.trips) (t : Fin 8) (r : Fin 32) (l : Fin 128)
    (hr : 32 * k.val + r.val < 1024) :
    tiles arg4 arg5 arg9 X_arg4 X_arg5 X_arg9 k t (ix2 r l) = hF arg4 arg5 arg9 X_arg4 X_arg5 X_arg9 ⟨32 * k.val + r.val, hr⟩ ⟨128 * t.val + l.val, by omega⟩ := by
  fin_cases t
  · exact H0_apply arg4 arg5 arg9 X_arg4 X_arg5 X_arg9 k r l hr
  · exact H1_apply arg4 arg5 arg9 X_arg4 X_arg5 X_arg9 k r l hr
  · exact H2_apply arg4 arg5 arg9 X_arg4 X_arg5 X_arg9 k r l hr
  · exact H3_apply arg4 arg5 arg9 X_arg4 X_arg5 X_arg9 k r l hr
  · exact H4_apply arg4 arg5 arg9 X_arg4 X_arg5 X_arg9 k r l hr
  · exact H5_apply arg4 arg5 arg9 X_arg4 X_arg5 X_arg9 k r l hr
  · exact H6_apply arg4 arg5 arg9 X_arg4 X_arg5 X_arg9 k r l hr
  · exact H7_apply arg4 arg5 arg9 X_arg4 X_arg5 X_arg9 k r l hr

/-- Their blocks' exponents. -/
theorem E_tiles (arg4 arg5 : Memref sig .tc .vmem S1x1024 .f32) (arg9 : Memref sig .tc .vmem S1024x1024 .f32) (X_arg4 : BufTy.Contents (Elt Ideal) arg4.view.ty)
    (X_arg5 : BufTy.Contents (Elt Ideal) arg5.view.ty) (X_arg9 : BufTy.Contents (Elt Ideal) arg9.view.ty) (k : Fin k0_t1_loop.trips) (t : Fin 8) (r : Fin 32) (q : Fin 4)
    (hr : 32 * k.val + r.val < 1024) :
    E (tiles arg4 arg5 arg9 X_arg4 X_arg5 X_arg9 k) t r q = bE (hF arg4 arg5 arg9 X_arg4 X_arg5 X_arg9) ⟨32 * k.val + r.val, hr⟩ ⟨4 * t.val + q.val, by omega⟩ := by
  unfold E bE
  congr 1
  funext m
  rw [tiles_apply _ _ _ _ _ _ k t r _ hr]
  congr 1
  apply Fin.ext
  show 128 * t.val + (32 * q.val + m.val) = 32 * (4 * t.val + q.val) + m.val
  omega

theorem trips_eq : k0_t1_loop.trips = 32 := by decide +kernel

/-- The scales' rectangle: the trip's rows and the group of 128 lanes of four column blocks. -/
theorem k0_off9_eq : ∀ (i : grid0.Coords) (k : Fin k0_t1_loop.trips), k0_off9 i k = ![32 * k.val, 128 * ((i 1).val / 4)] := by
  have h : ∀ (j : Fin 12) (k : Fin k0_t1_loop.trips), k0_off9 (fun a => match a with | 0 => (0 : Fin 4) | 1 => j) k = ![32 * k.val, 128 * (j.val / 4)] := by
    decide +kernel
  intro i k
  exact h (i 1) k

/-! ### The loop -/

section

variable (𝒱 : Variants) (c : Dev nD) (bd : Option 𝒱.V) (i : grid0.Coords) (arg2 : Memref sig .tc .vmem S1024x3072 .bf16) (harg2 : arg2.IsWhole) (arg3 : Memref sig .tc .vmem S3072x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .fp8e4m3) (harg6 : arg6.IsWhole) (arg7 : Memref sig .tc .vmem S1024x384 .f32) (harg7 : arg7.IsWhole) (arg8 : Memref sig .tc .vmem S1024x1024 .bf16) (harg8 : arg8.IsWhole) (arg9 : Memref sig .tc .vmem S1024x1024 .f32) (harg9 : arg9.IsWhole)
    (X_arg4 : BufTy.Contents (Elt Ideal) arg4.view.ty) (X_arg5 : BufTy.Contents (Elt Ideal) arg5.view.ty) (X_arg9 : BufTy.Contents (Elt Ideal) arg9.view.ty)
    (G_arg6 : BufTy.Contents (Elt Ideal) arg6.view.ty) (G_arg7 : BufTy.Contents (Elt Ideal) arg7.view.ty) (G_arg8 : BufTy.Contents (Elt Ideal) arg8.view.ty)

/-- The codes after `n` trips. -/
theorem loop_codes (n : ℕ) (hn : n ≤ 32) (row col : Fin 1024) (h : row.val < 32 * n) :
    arg6.view.read (Elt Ideal) (arg6.view.writes (Elt Ideal) G_arg6 (pb_k0_t1 (F := Ideal) 𝒱 c bd i arg2 harg2 arg3 harg3 arg4 harg4 arg5 harg5 arg6 harg6 arg7 harg7 arg8 harg8 arg9 harg9 (BitVec.ofNat 32 (i 1).val) X_arg4 X_arg5 X_arg9 G_arg6 G_arg7 G_arg8 n).1) (ix2 row col)
      = code (hF arg4 arg5 arg9 X_arg4 X_arg5 X_arg9 row col) (bE (hF arg4 arg5 arg9 X_arg4 X_arg5 X_arg9) row ⟨col.val / 32, by omega⟩) := by
  induction n with
  | zero => omega
  | succ n ih =>
    have hk : n < k0_t1_loop.trips := by rw [trips_eq]; omega
    rw [show n + 1 = (⟨n, hk⟩ : Fin k0_t1_loop.trips).val + 1 from rfl, pb_k0_t1_succ]
    dsimp only
    rw [trip_codes]
    simp only [List.cons_append, List.nil_append]
    refine (tiles_read arg6.view G_arg6 ⟨n, hk⟩ (fun t => codes (tiles arg4 arg5 arg9 X_arg4 X_arg5 X_arg9 ⟨n, hk⟩ t) (word (block (tiles arg4 arg5 arg9 X_arg4 X_arg5 X_arg9 ⟨n, hk⟩)) (BitVec.ofNat 32 t.val))) _ row col).trans ?_
    by_cases hr : 32 * n ≤ row.val ∧ row.val < 32 * n + 32
    · have hrow : (⟨32 * n + (row.val - 32 * n), by omega⟩ : Fin 1024) = row := Fin.ext (by show 32 * n + (row.val - 32 * n) = row.val; omega)
      rw [dif_pos hr, codes_apply, tiles_apply _ _ _ _ _ _ ⟨n, hk⟩ _ _ _ (by show 32 * n + (row.val - 32 * n) < 1024; omega),
        E_tiles _ _ _ _ _ _ ⟨n, hk⟩ _ _ _ (by show 32 * n + (row.val - 32 * n) < 1024; omega)]
      show code (hF arg4 arg5 arg9 X_arg4 X_arg5 X_arg9 ⟨32 * n + (row.val - 32 * n), _⟩ _) (bE (hF arg4 arg5 arg9 X_arg4 X_arg5 X_arg9) ⟨32 * n + (row.val - 32 * n), _⟩ _) = _
      rw [hrow]
      congr 2
      · apply Fin.ext
        show 128 * (col.val / 128) + col.val % 128 = col.val; omega
      · apply Fin.ext
        show 4 * (col.val / 128) + col.val % 128 / 32 = col.val / 32; omega
    · rw [dif_neg hr]
      exact ih (by omega) (by omega)

/-- The dequantised values after `n` trips. -/
theorem loop_deq (n : ℕ) (hn : n ≤ 32) (row col : Fin 1024) (h : row.val < 32 * n) :
    arg8.view.read (Elt Ideal) (arg8.view.writes (Elt Ideal) G_arg8 (pb_k0_t1 (F := Ideal) 𝒱 c bd i arg2 harg2 arg3 harg3 arg4 harg4 arg5 harg5 arg6 harg6 arg7 harg7 arg8 harg8 arg9 harg9 (BitVec.ofNat 32 (i 1).val) X_arg4 X_arg5 X_arg9 G_arg6 G_arg7 G_arg8 n).2.2) (ix2 row col)
      = code (hF arg4 arg5 arg9 X_arg4 X_arg5 X_arg9 row col) (bE (hF arg4 arg5 arg9 X_arg4 X_arg5 X_arg9) row ⟨col.val / 32, by omega⟩)
        * pw ((bE (hF arg4 arg5 arg9 X_arg4 X_arg5 X_arg9) row ⟨col.val / 32, by omega⟩ : ℤ) - 126) := by
  induction n with
  | zero => omega
  | succ n ih =>
    have hk : n < k0_t1_loop.trips := by rw [trips_eq]; omega
    rw [show n + 1 = (⟨n, hk⟩ : Fin k0_t1_loop.trips).val + 1 from rfl, pb_k0_t1_succ]
    dsimp only
    rw [trip_deq]
    simp only [List.cons_append, List.nil_append]
    refine (tiles_read arg8.view G_arg8 ⟨n, hk⟩ (fun t => deq (tiles arg4 arg5 arg9 X_arg4 X_arg5 X_arg9 ⟨n, hk⟩ t) (word (block (tiles arg4 arg5 arg9 X_arg4 X_arg5 X_arg9 ⟨n, hk⟩)) (BitVec.ofNat 32 t.val))) _ row col).trans ?_
    by_cases hr : 32 * n ≤ row.val ∧ row.val < 32 * n + 32
    · have hrow : (⟨32 * n + (row.val - 32 * n), by omega⟩ : Fin 1024) = row := Fin.ext (by show 32 * n + (row.val - 32 * n) = row.val; omega)
      have hcol : (⟨128 * (col.val / 128) + col.val % 128, by omega⟩ : Fin 1024) = col := Fin.ext (by show 128 * (col.val / 128) + col.val % 128 = col.val; omega)
      have hblk : (⟨4 * (col.val / 128) + col.val % 128 / 32, by omega⟩ : Fin 32) = ⟨col.val / 32, by omega⟩ := Fin.ext (by show 4 * (col.val / 128) + col.val % 128 / 32 = col.val / 32; omega)
      rw [dif_pos hr, deq_apply, tiles_apply _ _ _ _ _ _ ⟨n, hk⟩ _ _ _ (by show 32 * n + (row.val - 32 * n) < 1024; omega),
        E_tiles _ _ _ _ _ _ ⟨n, hk⟩ _ _ _ (by show 32 * n + (row.val - 32 * n) < 1024; omega)]
      show code (hF arg4 arg5 arg9 X_arg4 X_arg5 X_arg9 ⟨32 * n + (row.val - 32 * n), _⟩ ⟨128 * (col.val / 128) + col.val % 128, _⟩)
          (bE (hF arg4 arg5 arg9 X_arg4 X_arg5 X_arg9) ⟨32 * n + (row.val - 32 * n), _⟩ ⟨4 * (col.val / 128) + col.val % 128 / 32, _⟩)
        * pw ((bE (hF arg4 arg5 arg9 X_arg4 X_arg5 X_arg9) ⟨32 * n + (row.val - 32 * n), _⟩ ⟨4 * (col.val / 128) + col.val % 128 / 32, _⟩ : ℤ) - 126) = _
      rw [hrow, hcol, hblk]
    · rw [dif_neg hr]
      exact ih (by omega) (by omega)

/-- The scales after `n` trips, up to this column block's lanes: on the rows done its own lanes are written, the rest is as it was. -/
theorem loop_scales (n : ℕ) (hn : n ≤ 32) (row : Fin 1024) (l : Fin 384) (hl : l.val < 32 * (i 1).val + 32) :
    arg7.view.read (Elt Ideal) (arg7.view.writes (Elt Ideal) G_arg7 (pb_k0_t1 (F := Ideal) 𝒱 c bd i arg2 harg2 arg3 harg3 arg4 harg4 arg5 harg5 arg6 harg6 arg7 harg7 arg8 harg8 arg9 harg9 (BitVec.ofNat 32 (i 1).val) X_arg4 X_arg5 X_arg9 G_arg6 G_arg7 G_arg8 n).2.1) (ix2 row l)
      = if h : row.val < 32 * n ∧ 32 * (i 1).val ≤ l.val then
          pw ((bE (hF arg4 arg5 arg9 X_arg4 X_arg5 X_arg9) row ⟨l.val - 32 * (i 1).val, by omega⟩ : ℤ) - 126)
        else arg7.view.read (Elt Ideal) G_arg7 (ix2 row l) := by
  induction n with
  | zero =>
    rw [dif_neg (by omega)]
    rfl
  | succ n ih =>
    have hk : n < k0_t1_loop.trips := by rw [trips_eq]; omega
    have hi : (i 1).val < 12 := (i 1).isLt
    rw [show n + 1 = (⟨n, hk⟩ : Fin k0_t1_loop.trips).val + 1 from rfl, pb_k0_t1_succ]
    dsimp only
    rw [trip_scales]
    simp only [List.cons_append, List.nil_append]
    refine (piece_read (A := 1024) (B := 384) arg7.view G_arg7 _ _ _ (k0_off9_eq i ⟨n, hk⟩) _ _ _ row l).trans ?_
    have ih' := ih (by omega)
    by_cases hr : (32 * n ≤ row.val ∧ row.val < 32 * n + 32) ∧ 128 * ((i 1).val / 4) ≤ l.val ∧ l.val < 128 * ((i 1).val / 4) + 128
    · have hrow : (⟨32 * n + (row.val - 32 * n), by omega⟩ : Fin 1024) = row := Fin.ext (by show 32 * n + (row.val - 32 * n) = row.val; omega)
      refine (dif_pos hr).trans ?_
      by_cases ho : 32 * (i 1).val ≤ l.val
      · rw [dif_pos ⟨by omega, ho⟩]
        refine (scales_new (tiles arg4 arg5 arg9 X_arg4 X_arg5 X_arg9 ⟨n, hk⟩) (i 1) _ _ _ ⟨l.val - 32 * (i 1).val, by omega⟩
          (by show l.val - 128 * ((i 1).val / 4) = 32 * ((i 1).val % 4) + (l.val - 32 * (i 1).val); omega)).trans ?_
        rw [E_tiles _ _ _ _ _ _ ⟨n, hk⟩ _ _ _ (by show 32 * n + (row.val - 32 * n) < 1024; omega)]
        have hblk : (⟨4 * ((l.val - 32 * (i 1).val) / 4) + (l.val - 32 * (i 1).val) % 4, by omega⟩ : Fin 32) = ⟨l.val - 32 * (i 1).val, by omega⟩ :=
          Fin.ext (by show 4 * ((l.val - 32 * (i 1).val) / 4) + (l.val - 32 * (i 1).val) % 4 = l.val - 32 * (i 1).val; omega)
        show pw ((bE (hF arg4 arg5 arg9 X_arg4 X_arg5 X_arg9) ⟨32 * n + (row.val - 32 * n), _⟩ ⟨4 * ((l.val - 32 * (i 1).val) / 4) + (l.val - 32 * (i 1).val) % 4, _⟩ : ℤ) - 126) = _
        rw [hrow, hblk]
      · rw [dif_neg (by omega)]
        refine (scales_old (tiles arg4 arg5 arg9 X_arg4 X_arg5 X_arg9 ⟨n, hk⟩) (i 1) _ _ _
          (by show l.val - 128 * ((i 1).val / 4) < 32 * ((i 1).val % 4); omega)).trans ?_
        refine (load_read (A := 1024) (B := 384) arg7.view _ _ _ _ (k0_off9_eq i ⟨n, hk⟩) _ _ _
          (by show 32 * n + (row.val - 32 * n) < 1024; omega) (by show 128 * ((i 1).val / 4) + (l.val - 128 * ((i 1).val / 4)) < 384; omega)).trans ?_
        have hlane : (⟨128 * ((i 1).val / 4) + (l.val - 128 * ((i 1).val / 4)), by omega⟩ : Fin 384) = l :=
          Fin.ext (by show 128 * ((i 1).val / 4) + (l.val - 128 * ((i 1).val / 4)) = l.val; omega)
        show arg7.view.read (Elt Ideal) _ (ix2 (⟨32 * n + (row.val - 32 * n), _⟩ : Fin 1024) (⟨128 * ((i 1).val / 4) + (l.val - 128 * ((i 1).val / 4)), _⟩ : Fin 384)) = _
        rw [hrow, hlane]
        refine ih'.trans ?_
        rw [dif_neg (by omega)]
    · refine (dif_neg hr).trans (ih'.trans ?_)
      by_cases h1 : row.val < 32 * n ∧ 32 * (i 1).val ≤ l.val
      · rw [dif_pos h1, dif_pos ⟨by omega, h1.2⟩]
      · rw [dif_neg h1, dif_neg (by omega)]

end

end Cert.UpIdeal.Tile

end
-- ==== Proof.UpBody.lean ====
/-
  The first call over the extended reals: what its body leaves in its result buffers, given what it found there.
-/
module

public import proofs.«01_k».proof.Proof.Gen.UpIdeal.Frame
public import proofs.«01_k».proof.Proof.Gen.UpIdeal.Launch
public import proofs.«01_k».proof.Proof.Gen.UpIdeal.Skeleton
public import proofs.«01_k».proof.Proof.Gen.UpIdeal.Loops
public import proofs.«01_k».proof.Proof.Gen.UpIdeal.Points
public import proofs.«01_k».proof.Proof.UpLoop
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.UpIdeal.Run

open Cert.UpIdeal Cert.UpIdeal.Gen Cert.UpMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The activation at row `r` and column `l` of a grid point's block, from its four input blocks. -/
def hP (x0 : Vec Ideal S1024x3072 .bf16) (x1 : Vec Ideal S3072x1024 .fp8e4m3) (x2 x3 : Vec Ideal S1x1024 .f32) (r l : Fin 1024) : EReal :=
  UpMath.gelu ((∑ k : Fin 3072, x0 (ix2 r k) * x1 (ix2 k l)) * x2 (ix2 (0 : Fin 1) l) + x3 (ix2 (0 : Fin 1) l))

theorem acc_apply (v0 : Vec Ideal S1024x3072 .bf16) (v1 : Vec Ideal S3072x1024 .fp8e4m3) (r l : Fin 1024) :
    k0_pay1 v0 v1 (ix2 r l) = ∑ k : Fin 3072, v0 (ix2 r k) * v1 (ix2 k l) := by
  unfold k0_pay1
  pointwise

theorem zero2 : (![0, 0] : Fin 2 → ℕ) = fun _ => 0 := by funext a; fin_cases a <;> rfl

/-- A whole-block store, read back. -/
theorem read_whole {κ : Kind} {sp : Space} {e : EltTy} {s : Shape} (v : View sig κ sp s e) (f : v.ty.Contents (Elt Ideal)) (o : Fin s.rank → ℕ) (ho : o = fun _ => 0)
    (inb : ∀ a, o a + s.size a ≤ s.size a) (w : s.Idx → Elt Ideal e) (y : s.Idx) :
    v.read (Elt Ideal) (v.writes (Elt Ideal) f [⟨Rect.unit (s := s) o s.size inb, w⟩]) y = w y := by
  subst ho
  exact (View.read_writes_cons_unit v f inb w [] y rfl).trans (by
    rw [dif_pos (fun a => ⟨Nat.zero_le _, by rw [Nat.zero_add]; exact (y a).isLt⟩)]
    congr 1)

/-- A whole-block load. -/
theorem load_whole {κ : Kind} {sp : Space} {e : EltTy} {s : Shape} (v : View sig κ sp s e) (f : v.ty.Contents (Elt Ideal)) (o : Fin s.rank → ℕ) (ho : o = fun _ => 0)
    (inb : ∀ a, o a + s.size a ≤ s.size a) : v.readAt (Elt Ideal) (Rect.unit (s := s) o s.size inb).toLoadRect f = v.read (Elt Ideal) f := by
  subst ho
  funext y
  rw [View.readAt_apply]
  congr 1
  funext a
  apply Fin.ext
  show 0 + 1 * (y a).val = (y a).val
  omega

/-- The loop's activation is the block's, when the accumulator holds the product and the vectors' buffers their blocks. -/
theorem hF_eq (arg4 arg5 : Memref sig .tc .vmem S1x1024 .f32) (arg9 : Memref sig .tc .vmem S1024x1024 .f32)
    (X4 : BufTy.Contents (Elt Ideal) arg4.view.ty) (X5 : BufTy.Contents (Elt Ideal) arg5.view.ty) (X9 : BufTy.Contents (Elt Ideal) arg9.view.ty)
    (x0 : Vec Ideal S1024x3072 .bf16) (x1 : Vec Ideal S3072x1024 .fp8e4m3) (x2 x3 : Vec Ideal S1x1024 .f32)
    (h4 : arg4.view.read (Elt Ideal) X4 = x2) (h5 : arg5.view.read (Elt Ideal) X5 = x3) (h9 : arg9.view.read (Elt Ideal) X9 = k0_pay1 x0 x1) :
    Tile.hF arg4 arg5 arg9 X4 X5 X9 = hP x0 x1 x2 x3 := by
  funext r l
  unfold Tile.hF hP
  rw [h4, h5, h9, acc_apply]

/-- The codes a grid point leaves, -/
def Left4 (h : Fin 1024 → Fin 1024 → EReal) (X : Vec Ideal S1024x1024 .fp8e4m3) : Prop :=
  ∀ r l : Fin 1024, X (ix2 r l) = code (h r l) (Tile.bE h r ⟨l.val / 32, by omega⟩)

/-- its scales: its own 32 lanes, with the lanes of the column blocks before it as they were, -/
def Left5 (h : Fin 1024 → Fin 1024 → EReal) (j : ℕ) (Y X : Vec Ideal S1024x384 .f32) : Prop :=
  ∀ (r : Fin 1024) (l : Fin 384), (hl : l.val < 32 * j + 32) → X (ix2 r l)
    = if h' : 32 * j ≤ l.val then pw ((Tile.bE h r ⟨l.val - 32 * j, by omega⟩ : ℤ) - 126) else Y (ix2 r l)

/-- and its dequantised values. -/
def Left6 (h : Fin 1024 → Fin 1024 → EReal) (X : Vec Ideal S1024x1024 .bf16) : Prop :=
  ∀ r l : Fin 1024, X (ix2 r l) = code (h r l) (Tile.bE h r ⟨l.val / 32, by omega⟩) * pw ((Tile.bE h r ⟨l.val / 32, by omega⟩ : ℤ) - 126)

-- (the run's proof term is large: checking it walks past the default budget)
set_option maxHeartbeats 2000000 in
/-- The body's triple: the inputs' buffers hold their blocks and are left so; the scales' buffer is found at `y5`; what is left in the
    result buffers is the block's codes, scales and dequantised values. -/
theorem kernelRun (c : Dev nD) (i : grid0.Coords) (arg2 : Memref sig .tc .vmem S1024x3072 .bf16) (harg2 : arg2.IsWhole) (arg3 : Memref sig .tc .vmem S3072x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .fp8e4m3) (harg6 : arg6.IsWhole) (arg7 : Memref sig .tc .vmem S1024x384 .f32) (harg7 : arg7.IsWhole) (arg8 : Memref sig .tc .vmem S1024x1024 .bf16) (harg8 : arg8.IsWhole) (arg9 : Memref sig .tc .vmem S1024x1024 .f32) (harg9 : arg9.IsWhole)
    (x0 : Vec Ideal S1024x3072 .bf16) (x1 : Vec Ideal S3072x1024 .fp8e4m3) (x2 : Vec Ideal S1x1024 .f32) (x3 : Vec Ideal S1x1024 .f32) (y5 : Vec Ideal S1024x384 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, ⌜Left4 (hP x0 x1 x2 x3) d⌝ ∗ owns (c : Thread nD τ) arg6 fullShare d) ∗ (∃ d, ⌜Left5 (hP x0 x1 x2 x3) (i 1).val y5 d⌝ ∗ owns (c : Thread nD τ) arg7 fullShare d) ∗ (∃ d, ⌜Left6 (hP x0 x1 x2 x3) d⌝ ∗ owns (c : Thread nD τ) arg8 fullShare d) ∗ (∃ d, owns (c : Thread nD τ) arg9 fullShare d)) -∗ K ⟨⟩))
          ⊢ wp frame (wpE (defs₀ (F := Ideal)) Variants.none c none) E (cc0_mlp_up i arg2 harg2 arg3 harg3 arg4 harg4 arg5 harg5 arg6 harg6 arg7 harg7 arg8 harg8 arg9 harg9) K := by
    intro E K
    simp only [cc0_mlp_up_eq_skeleton]; unfold cc0_mlp_up_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3
    sl_exec
    sl_step
    have hacc : arg9.view.read (Elt Ideal) (arg9.view.writes (Elt Ideal) arg9.view.junk (kernelRun.sl.HS0_1 c arg2 harg2 arg3 harg3 x0 x1)) = k0_pay1 x0 x1 := by
      unfold kernelRun.sl.HS0_1
      funext y
      refine (read_whole arg9.view _ _ zero2 _ _ y).trans ?_
      rw [load_whole arg2.view _ _ zero2, load_whole arg3.view _ _ zero2, hf0, hf1]
    generalize kernelRun.sl.HS0_1 c arg2 harg2 arg3 harg3 x0 x1 = L9 at hacc ⊢
    have hF := hF_eq arg4 arg5 arg9 _ _ _ x0 x1 x2 x3 hf2 hf3 hacc
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap
      · iexists _; isplitr; swap; · iexact H4
        ipureintro; rfl
      ipureintro
      intro r l
      refine (Tile.loop_codes _ _ _ _ _ _ _ _ _ _ _ _ _ _ _ _ _ _ _ _ _ _ _ _ _ _ 32 le_rfl r l (by omega)).trans ?_
      rw [hF]
    isplitl [H5]
    · iexists _; isplitr; swap
      · iexists _; isplitr; swap; · iexact H5
        ipureintro; rfl
      ipureintro
      intro r l hl
      refine (Tile.loop_scales _ _ _ i _ _ _ _ _ _ _ _ _ _ _ _ _ _ _ _ _ _ _ _ _ _ 32 le_rfl r l hl).trans ?_
      rw [hF, hf5]
      by_cases h' : 32 * (i 1).val ≤ l.val
      · rw [dif_pos h', dif_pos ⟨by omega, h'⟩]
      · rw [dif_neg h', dif_neg (fun x => h' x.2)]
    isplitl [H6]
    · iexists _; isplitr; swap
      · iexists _; isplitr; swap; · iexact H6
        ipureintro; rfl
      ipureintro
      intro r l
      refine (Tile.loop_deq _ _ _ _ _ _ _ _ _ _ _ _ _ _ _ _ _ _ _ _ _ _ _ _ _ _ 32 le_rfl r l (by omega)).trans ?_
      rw [hF]
    iexists _, _; isplitr; swap; · iexact HS0
    ipureintro; rfl

end Cert.UpIdeal.Run

end
-- ==== Proof.UpPoint.lean ====
/-
  The first call over the extended reals: the run through the grid. What the body leaves in a result window at each grid point is stated of the
  whole arrays' activation; the scales' window, which twelve points share, holds after each of them the lanes of the column blocks so far.
-/
module

public import proofs.«01_k».proof.Proof.UpBody
public import Idealize.ShloMosaic.Lib.Pipeline.DatRel
public import Idealize.ShloMosaic.Lib.Pipeline.ArrRel
public import Idealize.ShloMosaic.Lib.Pipeline.ValueKit
public import Idealize.ShloMosaic.Lib.Pointwise

@[expose] public section

set_option maxRecDepth 16384

noncomputable section

namespace Cert.UpIdeal.Run

open Cert.UpIdeal Cert.UpIdeal.Gen Cert.UpMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-! ### A grid point's block of the arrays -/

/-- The activation of device `c`'s argument arrays. -/
def H (c : Dev nD) : Fin 4096 → Fin 12288 → EReal :=
  act (m ((c : Thread nD τ).loc main_arg0)) (m ((c : Thread nD τ).loc main_arg1)) (m ((c : Thread nD τ).loc main_arg2))
    (m ((c : Thread nD τ).loc main_arg3))

/-- The grid: twelve column blocks for each of the four row blocks. -/
theorem point : ∀ t : Fin cfg0.N, (grid0.coords t 0).val = t.val / 12 ∧ (grid0.coords t 1).val = t.val % 12 :=
  (by decide +kernel : ∀ t : Fin grid0.N, _)

theorem lt48 (t : Fin cfg0.N) : t.val < 48 := t.isLt

theorem idx : ∀ t : Fin cfg0.N, win0_0.index t = ![t.val / 12, 0] ∧ win0_1.index t = ![0, t.val % 12] ∧ win0_2.index t = ![0, t.val % 12]
    ∧ win0_3.index t = ![0, t.val % 12] ∧ win0_4.index t = ![t.val / 12, t.val % 12] ∧ win0_5.index t = ![t.val / 12, 0]
    ∧ win0_6.index t = ![t.val / 12, t.val % 12] :=
  (by decide +kernel : ∀ t : Fin grid0.N, _)

/-- The activation of a grid point's block. -/
def hB (c : Dev nD) (t : Fin cfg0.N) : Fin 1024 → Fin 1024 → EReal := hP (iblk m c 0 t) (iblk m c 1 t) (iblk m c 2 t) (iblk m c 3 t)

theorem blk0 (c : Dev nD) (t : Fin cfg0.N) (r : Fin 1024) (k : Fin 3072) : (iblk m c 0 t : Vec Ideal S1024x3072 .bf16) (ix2 r k)
    = m ((c : Thread nD τ).loc main_arg0) (ix2 (⟨1024 * (t.val / 12) + r.val, by have := lt48 t; omega⟩ : Fin 4096) k) := by
  blk_point [iblk, V, idx t]

theorem blk1 (c : Dev nD) (t : Fin cfg0.N) (k : Fin 3072) (l : Fin 1024) : (iblk m c 1 t : Vec Ideal S3072x1024 .fp8e4m3) (ix2 k l)
    = m ((c : Thread nD τ).loc main_arg1) (ix2 k (⟨1024 * (t.val % 12) + l.val, by omega⟩ : Fin 12288)) := by
  blk_point [iblk, V, idx t]

theorem blk2 (c : Dev nD) (t : Fin cfg0.N) (l : Fin 1024) : (iblk m c 2 t : Vec Ideal S1x1024 .f32) (ix2 (0 : Fin 1) l)
    = m ((c : Thread nD τ).loc main_arg2) (ix1 (⟨1024 * (t.val % 12) + l.val, by omega⟩ : Fin 12288)) := by
  blk_point [iblk, V, idx t]

theorem blk3 (c : Dev nD) (t : Fin cfg0.N) (l : Fin 1024) : (iblk m c 3 t : Vec Ideal S1x1024 .f32) (ix2 (0 : Fin 1) l)
    = m ((c : Thread nD τ).loc main_arg3) (ix1 (⟨1024 * (t.val % 12) + l.val, by omega⟩ : Fin 12288)) := by
  blk_point [iblk, V, idx t]

theorem hB_eq (c : Dev nD) (t : Fin cfg0.N) (r l : Fin 1024) :
    hB m c t r l = H m c ⟨1024 * (t.val / 12) + r.val, by have := lt48 t; omega⟩ ⟨1024 * (t.val % 12) + l.val, by omega⟩ := by
  unfold hB hP H act
  rw [blk2, blk3]
  simp only [blk0, blk1]

theorem bE_eq (c : Dev nD) (t : Fin cfg0.N) (r : Fin 1024) (B : Fin 32) :
    Tile.bE (hB m c t) r B = ex (H m c) ⟨1024 * (t.val / 12) + r.val, by have := lt48 t; omega⟩ ⟨32 * (t.val % 12) + B.val, by omega⟩ := by
  refine congrArg blockE (funext fun x => (hB_eq m c t r _).trans (congrArg (H m c _) (Fin.ext ?_)))
  show 1024 * (t.val % 12) + (32 * B.val + x.val) = (32 * (t.val % 12) + B.val) * 32 + x.val
  omega

end Cert.UpIdeal.Run

end
-- ==== Proof.UpRun.lean ====
/-
  The first call over the extended reals: the run through the grid, and its result arrays at the end.
-/
module

public import proofs.«01_k».proof.Proof.UpPoint

@[expose] public section

set_option maxRecDepth 16384

noncomputable section

namespace Cert.UpIdeal.Run

open Cert.UpIdeal Cert.UpIdeal.Gen Cert.UpMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-! ### What each grid point leaves -/

/-- Row `r` and column `l` of the block of point `t`, in the array. -/
abbrev gr (t : Fin cfg0.N) (r : Fin 1024) : Fin 4096 := ⟨1024 * (t.val / 12) + r.val, by have := lt48 t; omega⟩
abbrev gc (t : Fin cfg0.N) (l : Fin 1024) : Fin 12288 := ⟨1024 * (t.val % 12) + l.val, by omega⟩

/-- After point `t` the codes' and the dequantised values' buffers hold its block, and the scales' buffer the lanes of the column
    blocks up to its own. -/
def Rl (c : Dev nD) (w : Fin cfg0.W) (t : Fin cfg0.N) : ((cfg0.win w).block.Idx → Elt Ideal (cfg0.win w).elt) → Prop := match w with
  | ⟨4, _⟩ => fun X : Vec Ideal S1024x1024 .fp8e4m3 => ∀ r l : Fin 1024, X (ix2 r l) = codes (H m c) (ix2 (gr t r) (gc t l))
  | ⟨5, _⟩ => fun X : Vec Ideal S1024x384 .f32 => ∀ (r : Fin 1024) (l : Fin 384), l.val < 32 * (t.val % 12) + 32 → X (ix2 r l) = scales (H m c) (ix2 (gr t r) l)
  | ⟨6, _⟩ => fun X : Vec Ideal S1024x1024 .bf16 => ∀ r l : Fin 1024, X (ix2 r l) = deq (H m c) (ix2 (gr t r) (gc t l))
  | _ => fun _ => True

theorem blk_block (t : Fin cfg0.N) (l : Fin 1024) :
    (⟨32 * (t.val % 12) + (⟨l.val / 32, by omega⟩ : Fin 32).val, by dsimp only; omega⟩ : Fin 384) = ⟨(gc t l).val / 32, by have := (gc t l).isLt; omega⟩ := by
  apply Fin.ext
  show 32 * (t.val % 12) + l.val / 32 = (1024 * (t.val % 12) + l.val) / 32
  omega

theorem left4 (c : Dev nD) (t : Fin cfg0.N) (X : Vec Ideal S1024x1024 .fp8e4m3) (h : Left4 (hB m c t) X) : Rl m c 4 t X := by
  show ∀ r l : Fin 1024, X (ix2 r l) = codes (H m c) (ix2 (gr t r) (gc t l))
  intro r l
  rw [h r l, hB_eq, bE_eq, blk_block]
  rfl

theorem left6 (c : Dev nD) (t : Fin cfg0.N) (X : Vec Ideal S1024x1024 .bf16) (h : Left6 (hB m c t) X) : Rl m c 6 t X := by
  show ∀ r l : Fin 1024, X (ix2 r l) = deq (H m c) (ix2 (gr t r) (gc t l))
  intro r l
  rw [h r l, hB_eq, bE_eq, blk_block]
  rfl

/-- What the scales' buffer may hold when point `t` begins: the lanes of the column blocks before it. -/
def Found5 (c : Dev nD) (t : Fin cfg0.N) (Y : Vec Ideal S1024x384 .f32) : Prop :=
  ∀ (r : Fin 1024) (l : Fin 384), l.val < 32 * (t.val % 12) → Y (ix2 r l) = scales (H m c) (ix2 (gr t r) l)

theorem left5 (c : Dev nD) (t : Fin cfg0.N) (Y X : Vec Ideal S1024x384 .f32) (hY : Found5 m c t Y)
    (h : Left5 (hB m c t) (grid0.coords t 1).val Y X) : Rl m c 5 t X := by
  show ∀ (r : Fin 1024) (l : Fin 384), l.val < 32 * (t.val % 12) + 32 → X (ix2 r l) = scales (H m c) (ix2 (gr t r) l)
  rw [(point t).2] at h
  intro r l hl
  refine (h r l hl).trans ?_
  by_cases h' : 32 * (t.val % 12) ≤ l.val
  · rw [dif_pos h', bE_eq]
    have e : (⟨32 * (t.val % 12) + (⟨l.val - 32 * (t.val % 12), by omega⟩ : Fin 32).val, by dsimp only; omega⟩ : Fin 384) = l := by
      apply Fin.ext
      show 32 * (t.val % 12) + (l.val - 32 * (t.val % 12)) = l.val
      omega
    rw [e]
    rfl
  · rw [dif_neg h']
    exact hY r l (by omega)

/-! ### The body on the pipeline's buffers -/

/-- Each window's current buffer at point `t`, and that it is a whole buffer. -/
abbrev ms0_0 (t : Fin cfg0.N) : Memref sig .tc .vmem S1024x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
/-- The accumulator, a buffer of the kernel's own. -/
abbrev scM0_0 : Memref sig .tc .vmem S1024x1024 .f32 := Memref.whole cc0_scratch0

/-- The kernel's own buffers, held at some contents, with the accumulator as a memref. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The windows held to `Rl`: the three results. -/
def marked : Fin 7 → Bool := fun w => w.val == 4 || w.val == 5 || w.val == 6

/-- The proof data: the arrays as the call finds them; each input's buffer at its block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The run's data: exact on the inputs, the results held to `Rl`. -/
abbrev rdat (c : Dev nD) : RDat τ (Elt Ideal) Unit ℕ (UR sig nD τ) ℕ cfg0 c := (dats m 0 c).toRRel marked (Rl m c)

/-- The scales' buffer is not written back between two points of one row block, so it is found as the point before left it. -/
theorem found5 (c : Dev nD) (t : Fin cfg0.N) (Y : Vec Ideal S1024x384 .f32) (h : (rdat m c).Finds 5 t Y) : Found5 m c t Y := by
  intro r l hl
  have ht : t.val ≠ 0 := by intro h0; rw [h0] at hl; omega
  have ht' := lt48 t
  have hfe : (cfg0.win 5).fetch t = false := by
    have : ∀ t : Fin cfg0.N, (cfg0.win 5).fetch t = false := (by decide +kernel : ∀ t : Fin grid0.N, _)
    exact this t
  rcases (RDat.finds_of_pos (rdat m c) hfe ht Y).mp h with hf | hL
  · have hfl : ∀ t : Fin cfg0.N, (cfg0.win 5).flush t = true → t.val % 12 = 11 := (by decide +kernel : ∀ t : Fin grid0.N, _)
    have := hfl _ hf
    dsimp only at this
    omega
  · have hR : ∀ (r : Fin 1024) (l : Fin 384), l.val < 32 * ((t.val - 1) % 12) + 32
        → Y (ix2 r l) = scales (H m c) (ix2 (gr ⟨t.val - 1, Nat.lt_of_le_of_lt (Nat.sub_le _ _) t.isLt⟩ r) l) :=
      Dat.toRRel_leaves (dats m 0 c) (fgt := marked) (Rl := Rl m c) (w := 5) rfl hL
    rw [hR r l (by omega)]
    congr 2
    apply Fin.ext
    show 1024 * ((t.val - 1) / 12) + r.val = 1024 * (t.val / 12) + r.val
    omega

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜Rl m c 4 t X⌝ ∗ owns (c : Thread nD τ) (ms0_4 t) fullShare X)
    ∗ (∃ X, ⌜Rl m c 5 t X⌝ ∗ owns (c : Thread nD τ) (ms0_5 t) fullShare X)
    ∗ (∃ X, ⌜Rl m c 6 t X⌝ ∗ owns (c : Thread nD τ) (ms0_6 t) fullShare X))

set_option maxHeartbeats 800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, -, H4⟩, ⟨%y5, %hy5, H5⟩, ⟨%d6, -, H6⟩⟩
  iapply ((kernelRun c (grid0.coords t) _ _ _ _ _ _ _ _ _ _ _ _ _ _ _ _ (iblk m c 0 t) (iblk m c 1 t) (iblk m c 2 t) (iblk m c 3 t) y5) Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [HS0]; · iexact HS0
  iintro ⟨H0, H1, H2, H3, ⟨%x4, %hx4, H4⟩, ⟨%x5, %hx5, H5⟩, ⟨%x6, %hx6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]
  · iexists x4; isplitr; · ipureintro; exact left4 m c t x4 hx4
    iexact H4
  isplitl [H5]
  · iexists x5; isplitr; · ipureintro; exact left5 m c t y5 x5 (found5 m c t y5 hy5) hx5
    iexact H5
  iexists x6; isplitr; · ipureintro; exact left6 m c t x6 hx6
  iexact H6

theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligationRel (dats m 0 c) (defs₀ (F := Ideal)) Variants.none () Set.univ marked (Rl m c) := fun t => by
  rw [bigSep_W0, bigSep_W0, defs₀_row]
  exact triple_restated (sound_body m c t) rfl .rfl fun _ => .rfl

/-! ### The run -/

-- the launch theorem's implicit arguments are found by unifying its conclusion with this one, which takes unfolding plain definitions
-- in a metavariable's type
set_option backward.isDefEq.respectTransparency.types false in
/-- Every execution ends, with the arrays as the grid's points left them and every semaphore at zero. -/
theorem run_main_quiescent : θ_run defs (onTc (τ := τ) (main (F := Ideal))) (s₀ m ρ) (fun r => RDat.FramePost (cfgs 0) (rdat m) (V m) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

end Cert.UpIdeal.Run

end
-- ==== Proof.UpFinal.lean ====
/-
  The first call over the extended reals: its result arrays at the end of the run are `UpMath`'s codes, scales and dequantised values of its
  arguments, which are as they were.
-/
module

public import proofs.«01_k».proof.Proof.UpRun

@[expose] public section

set_option maxRecDepth 16384

noncomputable section

namespace Cert.UpIdeal.Run

open Cert.UpIdeal Cert.UpIdeal.Gen Cert.UpMath
open Idealize.ShloMosaic Idealize.ShloMosaic.TcCoe Idealize.SL.Sem Idealize.SL.RA
open Idealize.ShloMosaic.Rounds
open Idealize.ShloMosaic.Pipeline (Dat RDat)

variable (m : (ℓ : Loc nD τ sig) → Buf (Elt Ideal) ℓ) (ρ : Dev nD → PrngReg)

theorem eta2 {a b : ℕ} (y : (⟨2, ![a, b]⟩ : Shape).Idx) : y = ix2 (y 0 : Fin a) (y 1 : Fin b) := by
  funext k
  fin_cases k <;> rfl

variable (d : (c : Dev nD) → Dat τ (Elt Ideal) Unit ℕ (UR sig nD τ) ℕ cfg0 c)

/-- The codes' array, put together from the blocks of all grid points, -/
theorem final4 (c : Dev nD) (h : ∀ t : Fin cfg0.N, (cfg0.win 4).flush t = true → Rl m c 4 t ((d c).after 4 t)) :
    (d c).arrAt 4 cfg0.N = (codes (H m c) : Buf (Elt Ideal) ((c : Thread nD τ).loc main_v2_0)) := by
  refine (d c).arrAt_eq_of_covers 4 _ (by decide +kernel) fun t hf y => ?_
  have h' : ∀ r l : Fin 1024, ((d c).after 4 t : Vec Ideal S1024x1024 .fp8e4m3) (ix2 r l) = codes (H m c) (ix2 (gr t r) (gc t l)) := h t hf
  revert h'
  generalize (d c).after 4 t = X
  generalize codes (H m c) = Q
  intro h'
  blk_simp
  rw [eta2 y]
  refine (h' _ _).trans ?_
  blk_point [idx t]

/-- the scales' array, from the points that end a row block, -/
theorem final5 (c : Dev nD) (h : ∀ t : Fin cfg0.N, (cfg0.win 5).flush t = true → Rl m c 5 t ((d c).after 5 t)) :
    (d c).arrAt 5 cfg0.N = (scales (H m c) : Buf (Elt Ideal) ((c : Thread nD τ).loc main_v2_1)) := by
  refine (d c).arrAt_eq_of_covers 5 _ (by decide +kernel) fun t hf y => ?_
  have hfl : ∀ t : Fin cfg0.N, (cfg0.win 5).flush t = true → t.val % 12 = 11 := (by decide +kernel : ∀ t : Fin grid0.N, _)
  have ht := hfl t hf
  have h' : ∀ (r : Fin 1024) (l : Fin 384), l.val < 32 * (t.val % 12) + 32 → ((d c).after 5 t : Vec Ideal S1024x384 .f32) (ix2 r l) = scales (H m c) (ix2 (gr t r) l) := h t hf
  revert h'
  generalize (d c).after 5 t = X
  generalize scales (H m c) = Q
  intro h'
  blk_simp
  rw [eta2 y]
  refine (h' _ _ (by have : (y 1).val < 384 := (y 1).isLt; omega)).trans ?_
  blk_point [idx t]

/-- and the dequantised values' array. -/
theorem final6 (c : Dev nD) (h : ∀ t : Fin cfg0.N, (cfg0.win 6).flush t = true → Rl m c 6 t ((d c).after 6 t)) :
    (d c).arrAt 6 cfg0.N = (deq (H m c) : Buf (Elt Ideal) ((c : Thread nD τ).loc main_v2_2)) := by
  refine (d c).arrAt_eq_of_covers 6 _ (by decide +kernel) fun t hf y => ?_
  have h' : ∀ r l : Fin 1024, ((d c).after 6 t : Vec Ideal S1024x1024 .bf16) (ix2 r l) = deq (H m c) (ix2 (gr t r) (gc t l)) := h t hf
  revert h'
  generalize (d c).after 6 t = X
  generalize deq (H m c) = Q
  intro h'
  blk_simp
  rw [eta2 y]
  refine (h' _ _).trans ?_
  blk_point [idx t]

/-- What a run leaves, from what is known of the points. -/
theorem results (r : PUnit × MemSt nD τ sig (Elt Ideal)) (h : RDat.FramePost (cfgs 0) (rdat m) (V m) r) (c : Dev nD) :
    r.2.mem ((c.tc : Thread nD τ).loc main_v2_0) = codes (H m c)
    ∧ r.2.mem ((c.tc : Thread nD τ).loc main_v2_1) = scales (H m c)
    ∧ r.2.mem ((c.tc : Thread nD τ).loc main_v2_2) = deq (H m c) := by
  obtain ⟨after, hL, hA⟩ := RDat.FramePost.exists_exact h c
  have e := fun w => Dat.toRRel_leaves (dats m 0 c) (fgt := marked) (Rl := Rl m c) (w := w)
  exact ⟨(hA 4).trans (final4 m (fun c => (rdat m c).withAfter after) c fun t hf => e 4 rfl (hL 4 t hf)),
    (hA 5).trans (final5 m (fun c => (rdat m c).withAfter after) c fun t hf => e 5 rfl (hL 5 t hf)),
    (hA 6).trans (final6 m (fun c => (rdat m c).withAfter after) c fun t hf => e 6 rfl (hL 6 t hf))⟩

/-- The arguments are unchanged. -/
theorem arguments (r : PUnit × MemSt nD τ sig (Elt Ideal)) (h : RDat.FramePost (cfgs 0) (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(RDat.FramePost.arr_in h c 0 rfl).trans ((A_eq m c 0).trans (V_main_arg0 m c)),
    (RDat.FramePost.arr_in h c 1 rfl).trans ((A_eq m c 1).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The frame: every execution ends with the arguments as they were and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨arguments m r h.1, h.2⟩) (run_main_quiescent m ρ)

end Cert.UpIdeal.Run

end
-- ==== Proof.lean ====
/-
  The proof of `Cert.Claim` (proof/Defs.lean): for each of the two matrix products' calls the three frames, `preserves` (no rewrites),
  and the algebraic claim; for the convolution's call the frame (Proof/ConvFrame.lean). For the second product each of the two idealized
  programs leaves `DownMath.out` of its arguments (Proof/DownKernel.lean, Proof/DownReference.lean `final`); for the first product each
  leaves `UpMath`'s codes, scales and dequantised values of its arguments (Proof/UpFinal.lean, Proof/UpReference.lean). So from equal
  arguments the results are equal.
-/
module

public import proofs.«01_k».proof.Defs
public import proofs.«01_k».proof.Proof.Gen.Down.Frame
public import proofs.«01_k».proof.Proof.DownKernel
public import proofs.«01_k».proof.Proof.DownReference
public import proofs.«01_k».proof.Proof.UpFrame
public import proofs.«01_k».proof.Proof.ConvFrame
public import proofs.«01_k».proof.Proof.UpReference
public import proofs.«01_k».proof.Proof.UpFinal
public import Idealize.ShloMosaic.Adequacy
public import Idealize.ShloMosaic.Init

@[expose] public section

noncomputable section

namespace Cert.Proof

open Idealize.ShloMosaic Idealize.SL.Sem

/-- The second product: both programs run, and from equal arguments the two results are equal over the extended reals. -/
theorem algebraic : Cert.algebraic_DownIdeal_DownRefIdeal (hDownIdeal := Cert.DownIdeal.Gen.facts)
    (hDownRefIdeal := Cert.DownRefIdeal.Gen.facts) := by
  intro m g m' g' _ hargs
  refine ⟨fun c => Cert.DownIdeal.RefValue.G m c, ?_, ?_⟩
  · exact (θ_run (Cert.DownIdeal.defs (F := Ideal)) _ _).mono
      (fun r h c => ⟨(h c).1.trans (Cert.DownIdeal.RefValue.final m c), (h c).2⟩)
      (Cert.DownIdeal.Value.run_blocks (F := Ideal) m g)
  refine (θ_run (Cert.DownRefIdeal.defs (F := Ideal)) _ _).mono (fun r h c => ?_)
    (Cert.DownRefIdeal.Value.run_blocks (F := Ideal) m' g')
  refine ⟨(h c).1.trans ((Cert.DownRefIdeal.RefValue.final m' c).trans ?_), (h c).2⟩
  obtain ⟨h0, h1, h2, h3, h4, h5⟩ := hargs c
  unfold Cert.DownRefIdeal.RefValue.G Cert.DownIdeal.RefValue.G
  rw [h0, h1, h2, h3, h4, h5]

/-- The arrays' activations agree when the arguments do. -/
theorem H_eq (m : (ℓ : Loc Cert.UpIdeal.nD Cert.UpIdeal.τ Cert.UpIdeal.sig) → Buf (Elt Ideal) ℓ)
    (m' : (ℓ : Loc Cert.UpRefIdeal.nD Cert.UpRefIdeal.τ Cert.UpRefIdeal.sig) → Buf (Elt Ideal) ℓ) (c : Dev Cert.UpIdeal.nD)
    (h0 : m' ((c.tc : Thread Cert.UpRefIdeal.nD Cert.UpRefIdeal.τ).loc Cert.UpRefIdeal.main_arg0) = m ((c.tc : Thread Cert.UpIdeal.nD Cert.UpIdeal.τ).loc Cert.UpIdeal.main_arg0))
    (h1 : m' ((c.tc : Thread Cert.UpRefIdeal.nD Cert.UpRefIdeal.τ).loc Cert.UpRefIdeal.main_arg1) = m ((c.tc : Thread Cert.UpIdeal.nD Cert.UpIdeal.τ).loc Cert.UpIdeal.main_arg1))
    (h2 : m' ((c.tc : Thread Cert.UpRefIdeal.nD Cert.UpRefIdeal.τ).loc Cert.UpRefIdeal.main_arg2) = m ((c.tc : Thread Cert.UpIdeal.nD Cert.UpIdeal.τ).loc Cert.UpIdeal.main_arg2))
    (h3 : m' ((c.tc : Thread Cert.UpRefIdeal.nD Cert.UpRefIdeal.τ).loc Cert.UpRefIdeal.main_arg3) = m ((c.tc : Thread Cert.UpIdeal.nD Cert.UpIdeal.τ).loc Cert.UpIdeal.main_arg3)) :
    Cert.UpRefIdeal.RefValue.H m' c = Cert.UpIdeal.Run.H m c := by
  unfold Cert.UpRefIdeal.RefValue.H Cert.UpIdeal.Run.H
  rw [h0, h1, h2, h3]

/-- The first product: both programs run, and from equal arguments the three results are equal over the extended reals. -/
theorem algebraic_up : Cert.algebraic_UpIdeal_UpRefIdeal (hUpIdeal := Cert.UpIdeal.Gen.facts)
    (hUpRefIdeal := Cert.UpRefIdeal.Gen.facts) := by
  intro m g m' g' _ hargs
  refine ⟨fun c => Cert.UpMath.codes (Cert.UpIdeal.Run.H m c), fun c => Cert.UpMath.scales (Cert.UpIdeal.Run.H m c),
    fun c => Cert.UpMath.deq (Cert.UpIdeal.Run.H m c), ?_, ?_⟩
  · refine (θ_run (Cert.UpIdeal.defs (F := Ideal)) _ _).mono (fun r h c => ?_) (Cert.UpIdeal.Run.run_main_quiescent m g)
    obtain ⟨r0, r1, r2⟩ := Cert.UpIdeal.Run.results m r h.1 c
    exact ⟨r0, r1, r2, Cert.UpIdeal.Run.arguments m r h.1 c⟩
  refine (θ_run (Cert.UpRefIdeal.defs (F := Ideal)) _ _).mono (fun r h c => ?_) (θ_run_and (Cert.UpRefIdeal.Gen.run_main m' g') (Cert.UpRefIdeal.Gen.frame m' g'))
  obtain ⟨h0, h1, h2, h3⟩ := hargs c
  have e := H_eq m m' c h0 h1 h2 h3
  refine ⟨((h.1 c).1 4).trans ((Cert.UpRefIdeal.RefValue.final4 m' c).trans (congrArg Cert.UpMath.codes e)),
    ((h.1 c).1 5).trans ((Cert.UpRefIdeal.RefValue.final5 m' c).trans (congrArg Cert.UpMath.scales e)),
    ((h.1 c).1 6).trans ((Cert.UpRefIdeal.RefValue.final6 m' c).trans (congrArg Cert.UpMath.deq e)), h.2.1 c⟩

theorem claim : Cert.Claim :=
  ⟨Cert.Down.Gen.facts, Cert.DownIdeal.Gen.facts, Cert.DownRefIdeal.Gen.facts,
    Cert.Up.Gen.facts, Cert.UpIdeal.Gen.facts, Cert.UpRefIdeal.Gen.facts,
    Cert.Conv.Gen.facts,
    fun m g _ => Cert.Down.Gen.frame m g, fun m g _ => Cert.DownIdeal.Gen.frame m g,
    fun m g _ => Cert.DownRefIdeal.Gen.frame m g,
    fun m g _ => Cert.Up.Run.frame m g, fun m g _ => Cert.UpIdeal.Run.frame m g,
    fun m g _ => Cert.UpRefIdeal.Gen.frame m g,
    fun m g _ => Cert.Conv.Run.frame m g, trivial, algebraic, trivial, algebraic_up⟩

end Cert.Proof

end
